-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_v137) = v1 c
          ∧ r.2.mem ((c.tc : Thread Cert.ReferenceIdeal.nD Cert.ReferenceIdeal.τ).loc Cert.ReferenceIdeal.main_v138) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
-- ==== Pre_finite_inputs.lean ====
abbrev S8 : Shape := ⟨1, ![8]⟩
abbrev S4x4x8x4096x128 : Shape := ⟨5, ![4, 4, 8, 4096, 128]⟩
abbrev S1024 : Shape := ⟨1, ![1024]⟩
abbrev S2048x2048 : Shape := ⟨2, ![2048, 2048]⟩
abbrev S5632x2048 : Shape := ⟨2, ![5632, 2048]⟩
abbrev S1x4x8x4096x128 : Shape := ⟨5, ![1, 4, 8, 4096, 128]⟩
abbrev S4x8x4096x128 : Shape := ⟨4, ![4, 8, 4096, 128]⟩
abbrev S_ : Shape := ⟨0, ![]⟩

class Facts : Prop where
  slices_S4x4x8x4096x128_S1x4x8x4096x128_0_0_0_0_0 : S4x4x8x4096x128.Slices ![0, 0, 0, 0, 0] S1x4x8x4096x128
  shapeCasts_S1x4x8x4096x128_S4x8x4096x128 : S1x4x8x4096x128.ShapeCasts S4x8x4096x128
  bitsLt_bf16_f32 : FTy.bits .bf16 < FTy.bits .f32
  slices_S4x4x8x4096x128_S1x4x8x4096x128_2_0_0_0_0 : S4x4x8x4096x128.Slices ![2, 0, 0, 0, 0] S1x4x8x4096x128
  bcast_S_S4x8x4096x128 : S_.BroadcastsInDim S4x8x4096x128 (![] : Fin 0 → Fin S4x8x4096x128.rank)
  reducesTo_S4x8x4096x128_S_d0_1_2_3 : S4x8x4096x128.ReducesTo [0, 1, 2, 3] S_
  h_S_ : 0 < S_.numel

variable [Facts]

def fn {F : FTy → Type} [FloatOps F] (main_arg0 : FVec F S8 .f32) (main_arg1 : FVec F S8 .f32) (main_arg2 : FVec F S4x4x8x4096x128 .bf16) (main_arg3 : FVec F S1024 .f32) (main_arg4 : FVec F S2048x2048 .f32) (main_arg5 : FVec F S5632x2048 .f32) : IVec S_ 1 :=
  let main_v0 : FVec F S1x4x8x4096x128 .bf16 := (extractStridedSlice S1x4x8x4096x128 ![0, 0, 0, 0, 0] · slices_S4x4x8x4096x128_S1x4x8x4096x128_0_0_0_0_0) main_arg2
  let main_v1 : FVec F S4x8x4096x128 .bf16 := shapeCast S4x8x4096x128 main_v0 shapeCasts_S1x4x8x4096x128_S4x8x4096x128
  let main_v2 : FVec F S4x8x4096x128 .f32 := (extf .f32 · bitsLt_bf16_f32) main_v1
  let main_v3 : FVec F S1x4x8x4096x128 .bf16 := (extractStridedSlice S1x4x8x4096x128 ![2, 0, 0, 0, 0] · slices_S4x4x8x4096x128_S1x4x8x4096x128_2_0_0_0_0) main_arg2
  let main_v4 : FVec F S4x8x4096x128 .bf16 := shapeCast S4x8x4096x128 main_v3 shapeCasts_S1x4x8x4096x128_S4x8x4096x128
  let main_v5 : FVec F S4x8x4096x128 .f32 := (extf .f32 · bitsLt_bf16_f32) main_v4
  let main_v6 : FVec F S4x8x4096x128 .f32 := Host.absf main_v2
  let main_cst : FVec F S_ .f32 := constant S_ .f32 0x7F800000#32
  let main_v7 : FVec F S4x8x4096x128 .f32 := broadcastInDim S4x8x4096x128 ![] bcast_S_S4x8x4096x128 main_cst
  let main_v8 : IVec S4x8x4096x128 1 := cmpf .olt main_v6 main_v7
  let main_c : IVec S_ 1 := constantI S_ 1 1#1
  let main_v9 : IVec S_ 1 := (fun x v => Host.reduce IntOp.andi x v reducesTo_S4x8x4096x128_S_d0_1_2_3 h_S_) main_v8 main_c
  let main_v10 : FVec F S4x8x4096x128 .f32 := Host.absf main_v5
  let main_cst_0 : FVec F S_ .f32 := constant S_ .f32 0x7F800000#32
  let main_v11 : FVec F S4x8x4096x128 .f32 := broadcastInDim S4x8x4096x128 ![] bcast_S_S4x8x4096x128 main_cst_0
  let main_v12 : IVec S4x8x4096x128 1 := cmpf .olt main_v10 main_v11
  let main_c_1 : IVec S_ 1 := constantI S_ 1 1#1
  let main_v13 : IVec S_ 1 := (fun x v => Host.reduce IntOp.andi x v reducesTo_S4x8x4096x128_S_d0_1_2_3 h_S_) main_v12 main_c_1
  let main_v14 : IVec S_ 1 := andi main_v9 main_v13
  main_v14
-- ==== Kernel.lean ====
abbrev S8 : Shape := ⟨1, ![8]⟩
abbrev S4x4x8x4096x128 : Shape := ⟨5, ![4, 4, 8, 4096, 128]⟩
abbrev S1024 : Shape := ⟨1, ![1024]⟩
abbrev S2048x2048 : Shape := ⟨2, ![2048, 2048]⟩
abbrev S5632x2048 : Shape := ⟨2, ![5632, 2048]⟩
abbrev S8x1x128 : Shape := ⟨3, ![8, 1, 128]⟩
abbrev S4x8x4096x128 : Shape := ⟨4, ![4, 8, 4096, 128]⟩
abbrev S1x1x1x4096x128 : Shape := ⟨5, ![1, 1, 1, 4096, 128]⟩
abbrev S1x1x128 : Shape := ⟨3, ![1, 1, 128]⟩
abbrev S64x2048 : Shape := ⟨2, ![64, 2048]⟩
abbrev S176x2048 : Shape := ⟨2, ![176, 2048]⟩
abbrev S1x1x4096x128 : Shape := ⟨4, ![1, 1, 4096, 128]⟩
abbrev S256x256 : Shape := ⟨2, ![256, 256]⟩
abbrev S4x256x128 : Shape := ⟨3, ![4, 256, 128]⟩
abbrev S16x128x256 : Shape := ⟨3, ![16, 128, 256]⟩
abbrev S1 : Shape := ⟨1, ![1]⟩
abbrev S1x128 : Shape := ⟨2, ![1, 128]⟩
abbrev S1x1 : Shape := ⟨2, ![1, 1]⟩
abbrev S256x128 : Shape := ⟨2, ![256, 128]⟩
abbrev S1x256x128 : Shape := ⟨3, ![1, 256, 128]⟩
abbrev S1x1x1x256x128 : Shape := ⟨5, ![1, 1, 1, 256, 128]⟩
abbrev S128x256 : Shape := ⟨2, ![128, 256]⟩
abbrev S1x128x256 : Shape := ⟨3, ![1, 128, 256]⟩
abbrev S128x128 : Shape := ⟨2, ![128, 128]⟩
abbrev S1x128x128 : Shape := ⟨3, ![1, 128, 128]⟩
abbrev S256 : Shape := ⟨1, ![256]⟩
abbrev S256x1 : Shape := ⟨2, ![256, 1]⟩
abbrev S1x1x256x128 : Shape := ⟨4, ![1, 1, 256, 128]⟩

abbrev nBuf : Space → Nat
  | .hbm => 10
  | .vmem => 24
  | .smem => 2
  | _ => 0

abbrev bufTy : (tb : Table) → Fin (tcTables nBuf tb) → BufTy
  | .hbm, ⟨0, _⟩ => ⟨S8, .f32⟩
  | .hbm, ⟨1, _⟩ => ⟨S8, .f32⟩
  | .hbm, ⟨2, _⟩ => ⟨S4x4x8x4096x128, .bf16⟩
  | .hbm, ⟨3, _⟩ => ⟨S1024, .f32⟩
  | .hbm, ⟨4, _⟩ => ⟨S2048x2048, .f32⟩
  | .hbm, ⟨5, _⟩ => ⟨S5632x2048, .f32⟩
  | .hbm, ⟨6, _⟩ => ⟨S8x1x128, .f32⟩
  | .hbm, ⟨7, _⟩ => ⟨S4x8x4096x128, .bf16⟩
  | .hbm, ⟨8, _⟩ => ⟨S2048x2048, .bf16⟩
  | .hbm, ⟨9, _⟩ => ⟨S5632x2048, .bf16⟩
  | .local _ .vmem, ⟨0, _⟩ => ⟨S1x1x1x4096x128, .bf16⟩
  | .local _ .vmem, ⟨1, _⟩ => ⟨S1x1x1x4096x128, .bf16⟩
  | .local _ .vmem, ⟨2, _⟩ => ⟨S1x1x1x4096x128, .bf16⟩
  | .local _ .vmem, ⟨3, _⟩ => ⟨S1x1x1x4096x128, .bf16⟩
  | .local _ .vmem, ⟨4, _⟩ => ⟨S1x1x1x4096x128, .bf16⟩
  | .local _ .vmem, ⟨5, _⟩ => ⟨S1x1x1x4096x128, .bf16⟩
  | .local _ .vmem, ⟨6, _⟩ => ⟨S1x1x1x4096x128, .bf16⟩
  | .local _ .vmem, ⟨7, _⟩ => ⟨S1x1x1x4096x128, .bf16⟩
  | .local _ .vmem, ⟨8, _⟩ => ⟨S1x1x128, .f32⟩
  | .local _ .vmem, ⟨9, _⟩ => ⟨S1x1x128, .f32⟩
  | .local _ .vmem, ⟨10, _⟩ => ⟨S64x2048, .f32⟩
  | .local _ .vmem, ⟨11, _⟩ => ⟨S64x2048, .f32⟩
  | .local _ .vmem, ⟨12, _⟩ => ⟨S176x2048, .f32⟩
  | .local _ .vmem, ⟨13, _⟩ => ⟨S176x2048, .f32⟩
  | .local _ .vmem, ⟨14, _⟩ => ⟨S1x1x4096x128, .bf16⟩
  | .local _ .vmem, ⟨15, _⟩ => ⟨S1x1x4096x128, .bf16⟩
  | .local _ .vmem, ⟨16, _⟩ => ⟨S64x2048, .bf16⟩
  | .local _ .vmem, ⟨17, _⟩ => ⟨S64x2048, .bf16⟩
  | .local _ .vmem, ⟨18, _⟩ => ⟨S176x2048, .bf16⟩
  | .local _ .vmem, ⟨19, _⟩ => ⟨S176x2048, .bf16⟩
  | .local _ .vmem, ⟨20, _⟩ => ⟨S256x256, .f32⟩
  | .local _ .vmem, ⟨21, _⟩ => ⟨S4x256x128, .f32⟩
  | .local _ .vmem, ⟨22, _⟩ => ⟨S16x128x256, .f32⟩
  | .local _ .vmem, ⟨23, _⟩ => ⟨S16x128x256, .bf16⟩
  | .local _ .smem, ⟨0, _⟩ => ⟨S8, .f32⟩
  | .local _ .smem, ⟨1, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![8, 4], ![false, false]⟩

def k0_off1 (i : grid0.Coords) : Fin 1 → Nat :=
  let arg0 : BitVec 32 := BitVec.ofNat 32 (i 0).val
  let v6 : Index := Scalar.indexCast arg0
  ![v6.toNat]
def k0_mult1 : BitVec 32 :=
  let c0_i32_11 : BitVec 32 := 0#32
  let c256_i32 : BitVec 32 := 256#32
  let v27 : BitVec 32 := Scalar.muli c0_i32_11 c256_i32
  v27
def k0_off2 (c0_i32_11 : BitVec 32) : Fin 5 → Nat :=
  let c0_12 : Index := 0#32
  let c0_13 : Index := 0#32
  let c0_14 : Index := 0#32
  let c256_i32 : BitVec 32 := 256#32
  let v27 : BitVec 32 := Scalar.muli c0_i32_11 c256_i32
  let v28 : BitVec 32 := v27
  let v29 : Index := Scalar.indexCast v28
  let c0_15 : Index := 0#32
  ![0, 0, 0, v29.toNat, 0]
def k0_mult2 : BitVec 32 :=
  let c1_i32 : BitVec 32 := 1#32
  let c256_i32_27 : BitVec 32 := 256#32
  let v49 : BitVec 32 := Scalar.muli c1_i32 c256_i32_27
  v49
def k0_mult3 : BitVec 32 :=
  let c2_i32 : BitVec 32 := 2#32
  let c256_i32_45 : BitVec 32 := 256#32
  let v71 : BitVec 32 := Scalar.muli c2_i32 c256_i32_45
  v71
def k0_mult4 : BitVec 32 :=
  let c3_i32 : BitVec 32 := 3#32
  let c256_i32_63 : BitVec 32 := 256#32
  let v93 : BitVec 32 := Scalar.muli c3_i32 c256_i32_63
  v93
def k0_mult5 : BitVec 32 :=
  let c4_i32 : BitVec 32 := 4#32
  let c256_i32_81 : BitVec 32 := 256#32
  let v115 : BitVec 32 := Scalar.muli c4_i32 c256_i32_81
  v115
def k0_mult6 : BitVec 32 :=
  let c5_i32 : BitVec 32 := 5#32
  let c256_i32_99 : BitVec 32 := 256#32
  let v137 : BitVec 32 := Scalar.muli c5_i32 c256_i32_99
  v137
def k0_mult7 : BitVec 32 :=
  let c6_i32 : BitVec 32 := 6#32
  let c256_i32_117 : BitVec 32 := 256#32
  let v159 : BitVec 32 := Scalar.muli c6_i32 c256_i32_117
  v159
def k0_mult8 : BitVec 32 :=
  let c7_i32 : BitVec 32 := 7#32
  let c256_i32_135 : BitVec 32 := 256#32
  let v181 : BitVec 32 := Scalar.muli c7_i32 c256_i32_135
  v181
def k0_mult9 : BitVec 32 :=
  let c8_i32 : BitVec 32 := 8#32
  let c256_i32_153 : BitVec 32 := 256#32
  let v203 : BitVec 32 := Scalar.muli c8_i32 c256_i32_153
  v203
def k0_mult10 : BitVec 32 :=
  let c9_i32 : BitVec 32 := 9#32
  let c256_i32_171 : BitVec 32 := 256#32
  let v225 : BitVec 32 := Scalar.muli c9_i32 c256_i32_171
  v225
def k0_mult11 : BitVec 32 :=
  let c10_i32 : BitVec 32 := 10#32
  let c256_i32_189 : BitVec 32 := 256#32
  let v247 : BitVec 32 := Scalar.muli c10_i32 c256_i32_189
  v247
def k0_mult12 : BitVec 32 :=
  let c11_i32 : BitVec 32 := 11#32
  let c256_i32_207 : BitVec 32 := 256#32
  let v269 : BitVec 32 := Scalar.muli c11_i32 c256_i32_207
  v269
def k0_mult13 : BitVec 32 :=
  let c12_i32 : BitVec 32 := 12#32
  let c256_i32_225 : BitVec 32 := 256#32
  let v291 : BitVec 32 := Scalar.muli c12_i32 c256_i32_225
  v291
def k0_mult14 : BitVec 32 :=
  let c13_i32 : BitVec 32 := 13#32
  let c256_i32_243 : BitVec 32 := 256#32
  let v313 : BitVec 32 := Scalar.muli c13_i32 c256_i32_243
  v313
def k0_mult15 : BitVec 32 :=
  let c14_i32 : BitVec 32 := 14#32
  let c256_i32_261 : BitVec 32 := 256#32
  let v335 : BitVec 32 := Scalar.muli c14_i32 c256_i32_261
  v335
def k0_mult16 : BitVec 32 :=
  let c15_i32 : BitVec 32 := 15#32
  let c256_i32_279 : BitVec 32 := 256#32
  let v357 : BitVec 32 := Scalar.muli c15_i32 c256_i32_279
  v357
def k0_off3 (c0_i32_379 : BitVec 32) : Fin 3 → Nat :=
  let c15_i32_380 : BitVec 32 := 15#32
  let v556 : BitVec 32 := Scalar.subi c15_i32_380 c0_i32_379
  let v558 : Index := Scalar.indexCast v556
  let c0_381 : Index := 0#32
  let c128 : Index := 128#32
  ![v558.toNat, 0, 128]
def k0_mult17 : BitVec 32 :=
  let c0_i32_475 : BitVec 32 := 0#32
  let c256_i32_476 : BitVec 32 := 256#32
  let v748 : BitVec 32 := Scalar.muli c0_i32_475 c256_i32_476
  v748
def k0_off4 (c0_i32_475 : BitVec 32) : Fin 4 → Nat :=
  let c0_514 : Index := 0#32
  let c0_515 : Index := 0#32
  let c256_i32_476 : BitVec 32 := 256#32
  let v748 : BitVec 32 := Scalar.muli c0_i32_475 c256_i32_476
  let v749 : BitVec 32 := v748
  let v806 : Index := Scalar.indexCast v749
  let c0_516 : Index := 0#32
  ![0, 0, v806.toNat, 0]
def k0_mult18 : BitVec 32 :=
  let c1_i32_517 : BitVec 32 := 1#32
  let c256_i32_518 : BitVec 32 := 256#32
  let v810 : BitVec 32 := Scalar.muli c1_i32_517 c256_i32_518
  v810
def k0_mult19 : BitVec 32 :=
  let c2_i32_560 : BitVec 32 := 2#32
  let c256_i32_561 : BitVec 32 := 256#32
  let v872 : BitVec 32 := Scalar.muli c2_i32_560 c256_i32_561
  v872
def k0_mult20 : BitVec 32 :=
  let c3_i32_603 : BitVec 32 := 3#32
  let c256_i32_604 : BitVec 32 := 256#32
  let v934 : BitVec 32 := Scalar.muli c3_i32_603 c256_i32_604
  v934
def k0_mult21 : BitVec 32 :=
  let c4_i32_646 : BitVec 32 := 4#32
  let c256_i32_647 : BitVec 32 := 256#32
  let v996 : BitVec 32 := Scalar.muli c4_i32_646 c256_i32_647
  v996
def k0_mult22 : BitVec 32 :=
  let c5_i32_689 : BitVec 32 := 5#32
  let c256_i32_690 : BitVec 32 := 256#32
  let v1058 : BitVec 32 := Scalar.muli c5_i32_689 c256_i32_690
  v1058
def k0_mult23 : BitVec 32 :=
  let c6_i32_732 : BitVec 32 := 6#32
  let c256_i32_733 : BitVec 32 := 256#32
  let v1120 : BitVec 32 := Scalar.muli c6_i32_732 c256_i32_733
  v1120
def k0_mult24 : BitVec 32 :=
  let c7_i32_775 : BitVec 32 := 7#32
  let c256_i32_776 : BitVec 32 := 256#32
  let v1182 : BitVec 32 := Scalar.muli c7_i32_775 c256_i32_776
  v1182
def k0_mult25 : BitVec 32 :=
  let c8_i32_818 : BitVec 32 := 8#32
  let c256_i32_819 : BitVec 32 := 256#32
  let v1244 : BitVec 32 := Scalar.muli c8_i32_818 c256_i32_819
  v1244
def k0_mult26 : BitVec 32 :=
  let c9_i32_861 : BitVec 32 := 9#32
  let c256_i32_862 : BitVec 32 := 256#32
  let v1306 : BitVec 32 := Scalar.muli c9_i32_861 c256_i32_862
  v1306
def k0_mult27 : BitVec 32 :=
  let c10_i32_904 : BitVec 32 := 10#32
  let c256_i32_905 : BitVec 32 := 256#32
  let v1368 : BitVec 32 := Scalar.muli c10_i32_904 c256_i32_905
  v1368
def k0_mult28 : BitVec 32 :=
  let c11_i32_947 : BitVec 32 := 11#32
  let c256_i32_948 : BitVec 32 := 256#32
  let v1430 : BitVec 32 := Scalar.muli c11_i32_947 c256_i32_948
  v1430
def k0_mult29 : BitVec 32 :=
  let c12_i32_990 : BitVec 32 := 12#32
  let c256_i32_991 : BitVec 32 := 256#32
  let v1492 : BitVec 32 := Scalar.muli c12_i32_990 c256_i32_991
  v1492
def k0_mult30 : BitVec 32 :=
  let c13_i32_1033 : BitVec 32 := 13#32
  let c256_i32_1034 : BitVec 32 := 256#32
  let v1554 : BitVec 32 := Scalar.muli c13_i32_1033 c256_i32_1034
  v1554
def k0_mult31 : BitVec 32 :=
  let c14_i32_1076 : BitVec 32 := 14#32
  let c256_i32_1077 : BitVec 32 := 256#32
  let v1616 : BitVec 32 := Scalar.muli c14_i32_1076 c256_i32_1077
  v1616
def k0_mult32 : BitVec 32 :=
  let c15_i32_1119 : BitVec 32 := 15#32
  let c256_i32_1120 : BitVec 32 := 256#32
  let v1678 : BitVec 32 := Scalar.muli c15_i32_1119 c256_i32_1120
  v1678
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, arg0.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg1.toNat, arg0.toNat, c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, arg1.toNat, arg0.toNat, c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, arg1.toNat, arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S176x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x4096x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S176x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S8 : Shape := ⟨1, ![8]⟩
abbrev S4x4x8x4096x128 : Shape := ⟨5, ![4, 4, 8, 4096, 128]⟩
abbrev S1024 : Shape := ⟨1, ![1024]⟩
abbrev S2048x2048 : Shape := ⟨2, ![2048, 2048]⟩
abbrev S5632x2048 : Shape := ⟨2, ![5632, 2048]⟩
abbrev S1x4x8x4096x128 : Shape := ⟨5, ![1, 4, 8, 4096, 128]⟩
abbrev S4x8x4096x128 : Shape := ⟨4, ![4, 8, 4096, 128]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S8x1 : Shape := ⟨2, ![8, 1]⟩
abbrev S8x128 : Shape := ⟨2, ![8, 128]⟩
abbrev S8x128x1 : Shape := ⟨3, ![8, 128, 1]⟩
abbrev S4x8x128x128 : Shape := ⟨4, ![4, 8, 128, 128]⟩
abbrev S4x8x32x128x128 : Shape := ⟨5, ![4, 8, 32, 128, 128]⟩
abbrev S32x4x8x128x128 : Shape := ⟨5, ![32, 4, 8, 128, 128]⟩
abbrev S1x4x8x128x128 : Shape := ⟨5, ![1, 4, 8, 128, 128]⟩
abbrev S1x8x128x128 : Shape := ⟨4, ![1, 8, 128, 128]⟩
abbrev S1x8x128x1 : Shape := ⟨4, ![1, 8, 128, 1]⟩
abbrev S1x8x1x1 : Shape := ⟨4, ![1, 8, 1, 1]⟩
abbrev S4x8x4096 : Shape := ⟨3, ![4, 8, 4096]⟩
abbrev S4x8x4096x1 : Shape := ⟨4, ![4, 8, 4096, 1]⟩
abbrev S1x8x1x128 : Shape := ⟨4, ![1, 8, 1, 128]⟩

abbrev nBuf : Space → Nat
  | .hbm => 285
  | .vmem => 0
  | .smem => 0
  | _ => 0

abbrev hbmTy0_0 (i : Nat) : BufTy := match i % 128 with
  | 0 => ⟨S8, .f32⟩
  | 1 => ⟨S8, .f32⟩
  | 2 => ⟨S4x4x8x4096x128, .bf16⟩
  | 3 => ⟨S1024, .f32⟩
  | 4 => ⟨S2048x2048, .f32⟩
  | 5 => ⟨S5632x2048, .f32⟩
  | 6 => ⟨S1x4x8x4096x128, .bf16⟩
  | 7 => ⟨S4x8x4096x128, .bf16⟩
  | 8 => ⟨S4x8x4096x128, .f32⟩
  | 9 => ⟨S1x4x8x4096x128, .bf16⟩
  | 10 => ⟨S4x8x4096x128, .bf16⟩
  | 11 => ⟨S4x8x4096x128, .f32⟩
  | 12 => ⟨S1x4x8x4096x128, .bf16⟩
  | 13 => ⟨S4x8x4096x128, .bf16⟩
  | 14 => ⟨S4x8x4096x128, .f32⟩
  | 15 => ⟨S_, .f32⟩
  | 16 => ⟨S4x8x4096x128, .f32⟩
  | 17 => ⟨S4x8x4096x128, .f32⟩
  | 18 => ⟨S8, .f32⟩
  | 19 => ⟨S8, .f32⟩
  | 20 => ⟨S128, .f32⟩
  | 21 => ⟨S128x1, .f32⟩
  | 22 => ⟨S1x128, .f32⟩
  | 23 => ⟨S128x128, .f32⟩
  | 24 => ⟨S128x128, .f32⟩
  | 25 => ⟨S128x128, .f32⟩
  | 26 => ⟨S_, .f32⟩
  | 27 => ⟨S128x128, .f32⟩
  | 28 => ⟨S128x128, .i1⟩
  | 29 => ⟨S8x1x1, .f32⟩
  | 30 => ⟨S_, .f32⟩
  | 31 => ⟨S128x128, .f32⟩
  | 32 => ⟨S128x128, .f32⟩
  | 33 => ⟨S1x128x128, .f32⟩
  | 34 => ⟨S8x128x128, .f32⟩
  | 35 => ⟨S8x128x128, .f32⟩
  | 36 => ⟨S8x128x128, .f32⟩
  | 37 => ⟨S8x128x128, .f32⟩
  | 38 => ⟨S_, .f32⟩
  | 39 => ⟨S_, .f32⟩
  | 40 => ⟨S8x128x128, .i1⟩
  | 41 => ⟨S8x128x128, .f32⟩
  | 42 => ⟨S8x128x128, .f32⟩
  | 43 => ⟨S8x1, .f32⟩
  | 44 => ⟨S_, .f32⟩
  | 45 => ⟨S128, .f32⟩
  | 46 => ⟨S128, .f32⟩
  | 47 => ⟨S1x128, .f32⟩
  | 48 => ⟨S8x128, .f32⟩
  | 49 => ⟨S8x128, .f32⟩
  | 50 => ⟨S8x128, .f32⟩
  | 51 => ⟨S8x128, .f32⟩
  | 52 => ⟨S8x128x1, .f32⟩
  | 53 => ⟨S8x1, .f32⟩
  | 54 => ⟨S_, .f32⟩
  | 55 => ⟨S128, .f32⟩
  | 56 => ⟨S128, .f32⟩
  | 57 => ⟨S1x128, .f32⟩
  | 58 => ⟨S8x128, .f32⟩
  | 59 => ⟨S8x128, .f32⟩
  | 60 => ⟨S8x128, .f32⟩
  | 61 => ⟨S8x128, .f32⟩
  | 62 => ⟨S8x128x1, .f32⟩
  | 63 => ⟨S_, .f32⟩
  | 64 => ⟨S8, .f32⟩
  | 65 => ⟨S8, .f32⟩
  | 66 => ⟨S8, .f32⟩
  | 67 => ⟨S8x1x1, .f32⟩
  | 68 => ⟨S8, .f32⟩
  | 69 => ⟨S8, .f32⟩
  | 70 => ⟨S128, .f32⟩
  | 71 => ⟨S128x1, .f32⟩
  | 72 => ⟨S1x128, .f32⟩
  | 73 => ⟨S128x128, .f32⟩
  | 74 => ⟨S128x128, .f32⟩
  | 75 => ⟨S128x128, .f32⟩
  | 76 => ⟨S_, .f32⟩
  | 77 => ⟨S128x128, .f32⟩
  | 78 => ⟨S128x128, .i1⟩
  | 79 => ⟨S8x1x1, .f32⟩
  | 80 => ⟨S_, .f32⟩
  | 81 => ⟨S128x128, .f32⟩
  | 82 => ⟨S128x128, .f32⟩
  | 83 => ⟨S1x128x128, .f32⟩
  | 84 => ⟨S8x128x128, .f32⟩
  | 85 => ⟨S8x128x128, .f32⟩
  | 86 => ⟨S8x128x128, .f32⟩
  | 87 => ⟨S8x128x128, .f32⟩
  | 88 => ⟨S_, .f32⟩
  | 89 => ⟨S_, .f32⟩
  | 90 => ⟨S8x128x128, .i1⟩
  | 91 => ⟨S8x128x128, .f32⟩
  | 92 => ⟨S8x128x128, .f32⟩
  | 93 => ⟨S8x1, .f32⟩
  | 94 => ⟨S_, .f32⟩
  | 95 => ⟨S128, .f32⟩
  | 96 => ⟨S128, .f32⟩
  | 97 => ⟨S1x128, .f32⟩
  | 98 => ⟨S8x128, .f32⟩
  | 99 => ⟨S8x128, .f32⟩
  | 100 => ⟨S8x128, .f32⟩
  | 101 => ⟨S8x128, .f32⟩
  | 102 => ⟨S8x128x1, .f32⟩
  | 103 => ⟨S8x1, .f32⟩
  | 104 => ⟨S_, .f32⟩
  | 105 => ⟨S128, .f32⟩
  | 106 => ⟨S128, .f32⟩
  | 107 => ⟨S1x128, .f32⟩
  | 108 => ⟨S8x128, .f32⟩
  | 109 => ⟨S8x128, .f32⟩
  | 110 => ⟨S8x128, .f32⟩
  | 111 => ⟨S8x128, .f32⟩
  | 112 => ⟨S8x128x1, .f32⟩
  | 113 => ⟨S_, .f32⟩
  | 114 => ⟨S8, .f32⟩
  | 115 => ⟨S8, .f32⟩
  | 116 => ⟨S8, .f32⟩
  | 117 => ⟨S8x1x1, .f32⟩
  | 118 => ⟨S_, .f32⟩
  | 119 => ⟨S4x8x128x128, .f32⟩
  | 120 => ⟨S4x8x32x128x128, .f32⟩
  | 121 => ⟨S32x4x8x128x128, .f32⟩
  | 122 => ⟨S4x8x32x128x128, .f32⟩
  | 123 => ⟨S32x4x8x128x128, .f32⟩
  | 124 => ⟨S4x8x32x128x128, .f32⟩
  | 125 => ⟨S32x4x8x128x128, .f32⟩
  | 126 => ⟨S4x8x4096x128, .f32⟩
  | 127 => ⟨S4x8x32x128x128, .f32⟩
  | _ => ⟨S8, .f32⟩

abbrev hbmTy0_1 (i : Nat) : BufTy := match i % 128 with
  | 0 => ⟨S32x4x8x128x128, .f32⟩
  | 1 => ⟨S4x8x4096x128, .f32⟩
  | 2 => ⟨S4x8x32x128x128, .f32⟩
  | 3 => ⟨S32x4x8x128x128, .f32⟩
  | 4 => ⟨S4x8x4096x128, .f32⟩
  | 5 => ⟨S4x8x32x128x128, .f32⟩
  | 6 => ⟨S32x4x8x128x128, .f32⟩
  | 7 => ⟨S_, .f32⟩
  | 8 => ⟨S32x4x8x128x128, .f32⟩
  | 9 => ⟨S_, .f32⟩
  | 10 => ⟨S32x4x8x128x128, .f32⟩
  | 11 => ⟨S_, .i32⟩
  | 12 => ⟨S32x4x8x128x128, .f32⟩
  | 13 => ⟨S32x4x8x128x128, .f32⟩
  | 14 => ⟨S32x4x8x128x128, .f32⟩
  | 15 => ⟨S32x4x8x128x128, .f32⟩
  | 16 => ⟨S32x4x8x128x128, .f32⟩
  | 17 => ⟨S32x4x8x128x128, .f32⟩
  | 18 => ⟨S8x128x128, .f32⟩
  | 19 => ⟨S8x128x1, .f32⟩
  | 20 => ⟨S8x1x1, .f32⟩
  | 21 => ⟨S8x128x1, .f32⟩
  | 22 => ⟨S8x128x128, .f32⟩
  | 23 => ⟨S8x128x1, .f32⟩
  | 24 => ⟨S8x1x1, .f32⟩
  | 25 => ⟨S8x128x1, .f32⟩
  | 26 => ⟨S_, .i32⟩
  | 27 => ⟨S4x8x128x128, .f32⟩
  | 28 => ⟨S4x8x128x128, .f32⟩
  | 29 => ⟨S32x4x8x128x128, .f32⟩
  | 30 => ⟨S32x4x8x128x128, .f32⟩
  | 31 => ⟨S_, .i32⟩
  | 32 => ⟨S_, .i1⟩
  | 33 => ⟨S_, .i32⟩
  | 34 => ⟨S_, .i32⟩
  | 35 => ⟨S_, .i32⟩
  | 36 => ⟨S_, .i32⟩
  | 37 => ⟨S1x4x8x128x128, .f32⟩
  | 38 => ⟨S4x8x128x128, .f32⟩
  | 39 => ⟨S_, .i32⟩
  | 40 => ⟨S_, .i32⟩
  | 41 => ⟨S_, .i32⟩
  | 42 => ⟨S_, .i32⟩
  | 43 => ⟨S1x4x8x128x128, .f32⟩
  | 44 => ⟨S4x8x128x128, .f32⟩
  | 45 => ⟨S_, .i32⟩
  | 46 => ⟨S_, .i32⟩
  | 47 => ⟨S_, .i32⟩
  | 48 => ⟨S_, .i32⟩
  | 49 => ⟨S1x4x8x128x128, .f32⟩
  | 50 => ⟨S4x8x128x128, .f32⟩
  | 51 => ⟨S_, .i32⟩
  | 52 => ⟨S_, .i32⟩
  | 53 => ⟨S_, .i32⟩
  | 54 => ⟨S_, .i32⟩
  | 55 => ⟨S1x4x8x128x128, .f32⟩
  | 56 => ⟨S4x8x128x128, .f32⟩
  | 57 => ⟨S_, .i32⟩
  | 58 => ⟨S_, .i32⟩
  | 59 => ⟨S_, .i32⟩
  | 60 => ⟨S_, .i32⟩
  | 61 => ⟨S1x4x8x128x128, .f32⟩
  | 62 => ⟨S4x8x128x128, .f32⟩
  | 63 => ⟨S_, .i32⟩
  | 64 => ⟨S_, .i32⟩
  | 65 => ⟨S_, .i32⟩
  | 66 => ⟨S_, .i32⟩
  | 67 => ⟨S1x4x8x128x128, .f32⟩
  | 68 => ⟨S4x8x128x128, .f32⟩
  | 69 => ⟨S4x8x128x128, .f32⟩
  | 70 => ⟨S1x8x128x128, .f32⟩
  | 71 => ⟨S4x8x128x128, .f32⟩
  | 72 => ⟨S4x8x128x128, .f32⟩
  | 73 => ⟨S4x8x128x128, .f32⟩
  | 74 => ⟨S1x8x128x1, .f32⟩
  | 75 => ⟨S4x8x128x128, .f32⟩
  | 76 => ⟨S4x8x128x128, .f32⟩
  | 77 => ⟨S4x8x128x128, .f32⟩
  | 78 => ⟨S4x8x128x128, .f32⟩
  | 79 => ⟨S1x8x1x1, .f32⟩
  | 80 => ⟨S4x8x128x128, .f32⟩
  | 81 => ⟨S4x8x128x128, .f32⟩
  | 82 => ⟨S1x8x128x1, .f32⟩
  | 83 => ⟨S4x8x128x128, .f32⟩
  | 84 => ⟨S4x8x128x128, .f32⟩
  | 85 => ⟨S4x8x128x128, .f32⟩
  | 86 => ⟨S4x8x128x128, .f32⟩
  | 87 => ⟨S4x8x128x128, .f32⟩
  | 88 => ⟨S1x8x128x128, .f32⟩
  | 89 => ⟨S4x8x128x128, .f32⟩
  | 90 => ⟨S4x8x128x128, .f32⟩
  | 91 => ⟨S4x8x128x128, .f32⟩
  | 92 => ⟨S1x8x128x1, .f32⟩
  | 93 => ⟨S4x8x128x128, .f32⟩
  | 94 => ⟨S4x8x128x128, .f32⟩
  | 95 => ⟨S4x8x128x128, .f32⟩
  | 96 => ⟨S4x8x128x128, .f32⟩
  | 97 => ⟨S1x8x1x1, .f32⟩
  | 98 => ⟨S4x8x128x128, .f32⟩
  | 99 => ⟨S4x8x128x128, .f32⟩
  | 100 => ⟨S1x8x128x1, .f32⟩
  | 101 => ⟨S4x8x128x128, .f32⟩
  | 102 => ⟨S4x8x128x128, .f32⟩
  | 103 => ⟨S4x8x128x128, .f32⟩
  | 104 => ⟨S4x8x128x128, .f32⟩
  | 105 => ⟨S1x4x8x128x128, .f32⟩
  | 106 => ⟨S_, .i32⟩
  | 107 => ⟨S_, .i32⟩
  | 108 => ⟨S_, .i32⟩
  | 109 => ⟨S_, .i32⟩
  | 110 => ⟨S32x4x8x128x128, .f32⟩
  | 111 => ⟨S1x4x8x128x128, .f32⟩
  | 112 => ⟨S_, .i32⟩
  | 113 => ⟨S_, .i32⟩
  | 114 => ⟨S_, .i32⟩
  | 115 => ⟨S_, .i32⟩
  | 116 => ⟨S32x4x8x128x128, .f32⟩
  | 117 => ⟨S_, .i32⟩
  | 118 => ⟨S_, .i32⟩
  | 119 => ⟨S4x8x32x128x128, .f32⟩
  | 120 => ⟨S4x8x4096x128, .f32⟩
  | 121 => ⟨S4x8x32x128x128, .f32⟩
  | 122 => ⟨S4x8x4096x128, .f32⟩
  | 123 => ⟨S4x8x4096x128, .f32⟩
  | 124 => ⟨S4x8x4096x128, .f32⟩
  | 125 => ⟨S4x8x4096x128, .f32⟩
  | 126 => ⟨S_, .f32⟩
  | 127 => ⟨S4x8x4096, .f32⟩
  | _ => ⟨S8, .f32⟩

abbrev hbmTy0_2 (i : Nat) : BufTy := match i % 128 with
  | 0 => ⟨S4x8x4096x1, .f32⟩
  | 1 => ⟨S_, .f32⟩
  | 2 => ⟨S4x8x4096x1, .f32⟩
  | 3 => ⟨S4x8x4096x1, .f32⟩
  | 4 => ⟨S_, .f32⟩
  | 5 => ⟨S4x8x4096x1, .f32⟩
  | 6 => ⟨S4x8x4096x1, .f32⟩
  | 7 => ⟨S4x8x4096x1, .f32⟩
  | 8 => ⟨S4x8x4096x128, .f32⟩
  | 9 => ⟨S4x8x4096x128, .f32⟩
  | 10 => ⟨S1x8x1x128, .f32⟩
  | 11 => ⟨S4x8x4096x128, .f32⟩
  | 12 => ⟨S4x8x4096x128, .f32⟩
  | 13 => ⟨S1x4x8x4096x128, .bf16⟩
  | 14 => ⟨S4x8x4096x128, .bf16⟩
  | 15 => ⟨S4x8x4096x128, .f32⟩
  | 16 => ⟨S4x8x4096x128, .f32⟩
  | 17 => ⟨S4x8x4096x128, .f32⟩
  | 18 => ⟨S_, .f32⟩
  | 19 => ⟨S4x8x4096x128, .f32⟩
  | 20 => ⟨S4x8x4096x128, .f32⟩
  | 21 => ⟨S_, .f32⟩
  | 22 => ⟨S4x8x4096x128, .f32⟩
  | 23 => ⟨S4x8x4096x128, .f32⟩
  | 24 => ⟨S4x8x4096x128, .f32⟩
  | 25 => ⟨S4x8x4096x128, .f32⟩
  | 26 => ⟨S4x8x4096x128, .bf16⟩
  | 27 => ⟨S2048x2048, .bf16⟩
  | 28 => ⟨S5632x2048, .bf16⟩
  | _ => ⟨S8, .f32⟩

abbrev hbmTy (i : Nat) : BufTy := match i / 128 with
  | 0 => hbmTy0_0 i
  | 1 => hbmTy0_1 i
  | 2 => hbmTy0_2 i
  | _ => ⟨S8, .f32⟩

abbrev bufTy : (tb : Table) → Fin (tcTables nBuf tb) → BufTy
  | .hbm, ⟨i, _⟩ => hbmTy i
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_4 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_5 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_6 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_7 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_8 : Ref sig .tc := ⟨.hbm, 88, rfl⟩
abbrev main_call1_v0 : Ref sig .tc := ⟨.hbm, 89, rfl⟩
abbrev main_call1_v1 : Ref sig .tc := ⟨.hbm, 90, rfl⟩
abbrev main_call1_v2 : Ref sig .tc := ⟨.hbm, 91, rfl⟩
abbrev main_v70 : Ref sig .tc := ⟨.hbm, 92, rfl⟩
abbrev main_v71 : Ref sig .tc := ⟨.hbm, 93, rfl⟩
abbrev main_cst_9 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_10 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_cst_11 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_cst_12 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_cst_13 : Ref sig .tc := ⟨.hbm, 135, rfl⟩
abbrev main_v109 : Ref sig .tc := ⟨.hbm, 136, rfl⟩
abbrev main_cst_14 : Ref sig .tc := ⟨.hbm, 137, rfl⟩
abbrev main_v110 : Ref sig .tc := ⟨.hbm, 138, rfl⟩
abbrev main_c : Ref sig .tc := ⟨.hbm, 139, rfl⟩
abbrev main_v111_0 : Ref sig .tc := ⟨.hbm, 140, rfl⟩
abbrev main_v111_1 : Ref sig .tc := ⟨.hbm, 141, rfl⟩
abbrev main_v111_2 : Ref sig .tc := ⟨.hbm, 142, rfl⟩
abbrev main_v111_3 : Ref sig .tc := ⟨.hbm, 143, rfl⟩
abbrev main_v111_4 : Ref sig .tc := ⟨.hbm, 144, rfl⟩
abbrev main_v111_5 : Ref sig .tc := ⟨.hbm, 145, rfl⟩
abbrev main_v111_6 : Ref sig .tc := ⟨.hbm, 146, rfl⟩
abbrev main_v111_7 : Ref sig .tc := ⟨.hbm, 147, rfl⟩
abbrev main_v111_8 : Ref sig .tc := ⟨.hbm, 148, rfl⟩
abbrev main_v111_9 : Ref sig .tc := ⟨.hbm, 149, rfl⟩
abbrev main_v111_10 : Ref sig .tc := ⟨.hbm, 150, rfl⟩
abbrev main_v111_11 : Ref sig .tc := ⟨.hbm, 151, rfl⟩
abbrev main_v111_12 : Ref sig .tc := ⟨.hbm, 152, rfl⟩
abbrev main_v111_13 : Ref sig .tc := ⟨.hbm, 153, rfl⟩
abbrev main_v111_14 : Ref sig .tc := ⟨.hbm, 154, rfl⟩
abbrev main_v111_15 : Ref sig .tc := ⟨.hbm, 155, rfl⟩
abbrev main_v111_16 : Ref sig .tc := ⟨.hbm, 156, rfl⟩
abbrev main_v111_17 : Ref sig .tc := ⟨.hbm, 157, rfl⟩
abbrev main_v111_18 : Ref sig .tc := ⟨.hbm, 158, rfl⟩
abbrev main_while0c_c_36 : Ref sig .tc := ⟨.hbm, 159, rfl⟩
abbrev main_while0c_v139 : Ref sig .tc := ⟨.hbm, 160, rfl⟩
abbrev main_while0b_call5_c : Ref sig .tc := ⟨.hbm, 161, rfl⟩
abbrev main_while0b_call5_c_0 : Ref sig .tc := ⟨.hbm, 162, rfl⟩
abbrev main_while0b_call5_c_1 : Ref sig .tc := ⟨.hbm, 163, rfl⟩
abbrev main_while0b_call5_c_2 : Ref sig .tc := ⟨.hbm, 164, rfl⟩
abbrev main_while0b_call5_v0 : Ref sig .tc := ⟨.hbm, 165, rfl⟩
abbrev main_while0b_v139 : Ref sig .tc := ⟨.hbm, 166, rfl⟩
abbrev main_while0b_call6_c : Ref sig .tc := ⟨.hbm, 167, rfl⟩
abbrev main_while0b_call6_c_0 : Ref sig .tc := ⟨.hbm, 168, rfl⟩
abbrev main_while0b_call6_c_1 : Ref sig .tc := ⟨.hbm, 169, rfl⟩
abbrev main_while0b_call6_c_2 : Ref sig .tc := ⟨.hbm, 170, rfl⟩
abbrev main_while0b_call6_v0 : Ref sig .tc := ⟨.hbm, 171, rfl⟩
abbrev main_while0b_v140 : Ref sig .tc := ⟨.hbm, 172, rfl⟩
abbrev main_while0b_call7_c : Ref sig .tc := ⟨.hbm, 173, rfl⟩
abbrev main_while0b_call7_c_0 : Ref sig .tc := ⟨.hbm, 174, rfl⟩
abbrev main_while0b_call7_c_1 : Ref sig .tc := ⟨.hbm, 175, rfl⟩
abbrev main_while0b_call7_c_2 : Ref sig .tc := ⟨.hbm, 176, rfl⟩
abbrev main_while0b_call7_v0 : Ref sig .tc := ⟨.hbm, 177, rfl⟩
abbrev main_while0b_v141 : Ref sig .tc := ⟨.hbm, 178, rfl⟩
abbrev main_while0b_call8_c : Ref sig .tc := ⟨.hbm, 179, rfl⟩
abbrev main_while0b_call8_c_0 : Ref sig .tc := ⟨.hbm, 180, rfl⟩
abbrev main_while0b_call8_c_1 : Ref sig .tc := ⟨.hbm, 181, rfl⟩
abbrev main_while0b_call8_c_2 : Ref sig .tc := ⟨.hbm, 182, rfl⟩
abbrev main_while0b_call8_v0 : Ref sig .tc := ⟨.hbm, 183, rfl⟩
abbrev main_while0b_v142 : Ref sig .tc := ⟨.hbm, 184, rfl⟩
abbrev main_while0b_call9_c : Ref sig .tc := ⟨.hbm, 185, rfl⟩
abbrev main_while0b_call9_c_0 : Ref sig .tc := ⟨.hbm, 186, rfl⟩
abbrev main_while0b_call9_c_1 : Ref sig .tc := ⟨.hbm, 187, rfl⟩
abbrev main_while0b_call9_c_2 : Ref sig .tc := ⟨.hbm, 188, rfl⟩
abbrev main_while0b_call9_v0 : Ref sig .tc := ⟨.hbm, 189, rfl⟩
abbrev main_while0b_v143 : Ref sig .tc := ⟨.hbm, 190, rfl⟩
abbrev main_while0b_call10_c : Ref sig .tc := ⟨.hbm, 191, rfl⟩
abbrev main_while0b_call10_c_0 : Ref sig .tc := ⟨.hbm, 192, rfl⟩
abbrev main_while0b_call10_c_1 : Ref sig .tc := ⟨.hbm, 193, rfl⟩
abbrev main_while0b_call10_c_2 : Ref sig .tc := ⟨.hbm, 194, rfl⟩
abbrev main_while0b_call10_v0 : Ref sig .tc := ⟨.hbm, 195, rfl⟩
abbrev main_while0b_v144 : Ref sig .tc := ⟨.hbm, 196, rfl⟩
abbrev main_while0b_v145 : Ref sig .tc := ⟨.hbm, 197, rfl⟩
abbrev main_while0b_v146 : Ref sig .tc := ⟨.hbm, 198, rfl⟩
abbrev main_while0b_v147 : Ref sig .tc := ⟨.hbm, 199, rfl⟩
abbrev main_while0b_v148 : Ref sig .tc := ⟨.hbm, 200, rfl⟩
abbrev main_while0b_v149 : Ref sig .tc := ⟨.hbm, 201, rfl⟩
abbrev main_while0b_v150 : Ref sig .tc := ⟨.hbm, 202, rfl⟩
abbrev main_while0b_v151 : Ref sig .tc := ⟨.hbm, 203, rfl⟩
abbrev main_while0b_v152 : Ref sig .tc := ⟨.hbm, 204, rfl⟩
abbrev main_while0b_v153 : Ref sig .tc := ⟨.hbm, 205, rfl⟩
abbrev main_while0b_v154 : Ref sig .tc := ⟨.hbm, 206, rfl⟩
abbrev main_while0b_v155 : Ref sig .tc := ⟨.hbm, 207, rfl⟩
abbrev main_while0b_v156 : Ref sig .tc := ⟨.hbm, 208, rfl⟩
abbrev main_while0b_v157 : Ref sig .tc := ⟨.hbm, 209, rfl⟩
abbrev main_while0b_v158 : Ref sig .tc := ⟨.hbm, 210, rfl⟩
abbrev main_while0b_v159 : Ref sig .tc := ⟨.hbm, 211, rfl⟩
abbrev main_while0b_v160 : Ref sig .tc := ⟨.hbm, 212, rfl⟩
abbrev main_while0b_v161 : Ref sig .tc := ⟨.hbm, 213, rfl⟩
abbrev main_while0b_v162 : Ref sig .tc := ⟨.hbm, 214, rfl⟩
abbrev main_while0b_v163 : Ref sig .tc := ⟨.hbm, 215, rfl⟩
abbrev main_while0b_v164 : Ref sig .tc := ⟨.hbm, 216, rfl⟩
abbrev main_while0b_v165 : Ref sig .tc := ⟨.hbm, 217, rfl⟩
abbrev main_while0b_v166 : Ref sig .tc := ⟨.hbm, 218, rfl⟩
abbrev main_while0b_v167 : Ref sig .tc := ⟨.hbm, 219, rfl⟩
abbrev main_while0b_v168 : Ref sig .tc := ⟨.hbm, 220, rfl⟩
abbrev main_while0b_v169 : Ref sig .tc := ⟨.hbm, 221, rfl⟩
abbrev main_while0b_v170 : Ref sig .tc := ⟨.hbm, 222, rfl⟩
abbrev main_while0b_v171 : Ref sig .tc := ⟨.hbm, 223, rfl⟩
abbrev main_while0b_v172 : Ref sig .tc := ⟨.hbm, 224, rfl⟩
abbrev main_while0b_v173 : Ref sig .tc := ⟨.hbm, 225, rfl⟩
abbrev main_while0b_v174 : Ref sig .tc := ⟨.hbm, 226, rfl⟩
abbrev main_while0b_v175 : Ref sig .tc := ⟨.hbm, 227, rfl⟩
abbrev main_while0b_v176 : Ref sig .tc := ⟨.hbm, 228, rfl⟩
abbrev main_while0b_v177 : Ref sig .tc := ⟨.hbm, 229, rfl⟩
abbrev main_while0b_v178 : Ref sig .tc := ⟨.hbm, 230, rfl⟩
abbrev main_while0b_v179 : Ref sig .tc := ⟨.hbm, 231, rfl⟩
abbrev main_while0b_v180 : Ref sig .tc := ⟨.hbm, 232, rfl⟩
abbrev main_while0b_call11_v0 : Ref sig .tc := ⟨.hbm, 233, rfl⟩
abbrev main_while0b_call11_c : Ref sig .tc := ⟨.hbm, 234, rfl⟩
abbrev main_while0b_call11_c_0 : Ref sig .tc := ⟨.hbm, 235, rfl⟩
abbrev main_while0b_call11_c_1 : Ref sig .tc := ⟨.hbm, 236, rfl⟩
abbrev main_while0b_call11_c_2 : Ref sig .tc := ⟨.hbm, 237, rfl⟩
abbrev main_while0b_v181 : Ref sig .tc := ⟨.hbm, 238, rfl⟩
abbrev main_while0b_call12_v0 : Ref sig .tc := ⟨.hbm, 239, rfl⟩
abbrev main_while0b_call12_c : Ref sig .tc := ⟨.hbm, 240, rfl⟩
abbrev main_while0b_call12_c_0 : Ref sig .tc := ⟨.hbm, 241, rfl⟩
abbrev main_while0b_call12_c_1 : Ref sig .tc := ⟨.hbm, 242, rfl⟩
abbrev main_while0b_call12_c_2 : Ref sig .tc := ⟨.hbm, 243, rfl⟩
abbrev main_while0b_v182 : Ref sig .tc := ⟨.hbm, 244, rfl⟩
abbrev main_while0b_c_36 : Ref sig .tc := ⟨.hbm, 245, rfl⟩
abbrev main_while0b_v183 : Ref sig .tc := ⟨.hbm, 246, rfl⟩
abbrev main_v112 : Ref sig .tc := ⟨.hbm, 247, rfl⟩
abbrev main_v113 : Ref sig .tc := ⟨.hbm, 248, rfl⟩
abbrev main_v114 : Ref sig .tc := ⟨.hbm, 249, rfl⟩
abbrev main_v115 : Ref sig .tc := ⟨.hbm, 250, rfl⟩
abbrev main_v116 : Ref sig .tc := ⟨.hbm, 251, rfl⟩
abbrev main_v117 : Ref sig .tc := ⟨.hbm, 252, rfl⟩
abbrev main_v118 : Ref sig .tc := ⟨.hbm, 253, rfl⟩
abbrev main_cst_15 : Ref sig .tc := ⟨.hbm, 254, rfl⟩
abbrev main_v119 : Ref sig .tc := ⟨.hbm, 255, rfl⟩
abbrev main_v120 : Ref sig .tc := ⟨.hbm, 256, rfl⟩
abbrev main_cst_16 : Ref sig .tc := ⟨.hbm, 257, rfl⟩
abbrev main_v121 : Ref sig .tc := ⟨.hbm, 258, rfl⟩
abbrev main_v122 : Ref sig .tc := ⟨.hbm, 259, rfl⟩
abbrev main_cst_17 : Ref sig .tc := ⟨.hbm, 260, rfl⟩
abbrev main_v123 : Ref sig .tc := ⟨.hbm, 261, rfl⟩
abbrev main_v124 : Ref sig .tc := ⟨.hbm, 262, rfl⟩
abbrev main_v125 : Ref sig .tc := ⟨.hbm, 263, rfl⟩
abbrev main_v126 : Ref sig .tc := ⟨.hbm, 264, rfl⟩
abbrev main_v127 : Ref sig .tc := ⟨.hbm, 265, rfl⟩
abbrev main_v128 : Ref sig .tc := ⟨.hbm, 266, rfl⟩
abbrev main_v129 : Ref sig .tc := ⟨.hbm, 267, rfl⟩
abbrev main_v130 : Ref sig .tc := ⟨.hbm, 268, rfl⟩
abbrev main_v131 : Ref sig .tc := ⟨.hbm, 269, rfl⟩
abbrev main_v132 : Ref sig .tc := ⟨.hbm, 270, rfl⟩
abbrev main_v133 : Ref sig .tc := ⟨.hbm, 271, rfl⟩
abbrev main_call14_v0 : Ref sig .tc := ⟨.hbm, 272, rfl⟩
abbrev main_call14_v1 : Ref sig .tc := ⟨.hbm, 273, rfl⟩
abbrev main_call14_cst : Ref sig .tc := ⟨.hbm, 274, rfl⟩
abbrev main_call14_v2 : Ref sig .tc := ⟨.hbm, 275, rfl⟩
abbrev main_call14_v3 : Ref sig .tc := ⟨.hbm, 276, rfl⟩
abbrev main_call14_cst_0 : Ref sig .tc := ⟨.hbm, 277, rfl⟩
abbrev main_call14_v4 : Ref sig .tc := ⟨.hbm, 278, rfl⟩
abbrev main_call14_v5 : Ref sig .tc := ⟨.hbm, 279, rfl⟩
abbrev main_v134 : Ref sig .tc := ⟨.hbm, 280, rfl⟩
abbrev main_v135 : Ref sig .tc := ⟨.hbm, 281, rfl⟩
abbrev main_v136 : Ref sig .tc := ⟨.hbm, 282, rfl⟩
abbrev main_v137 : Ref sig .tc := ⟨.hbm, 283, rfl⟩
abbrev main_v138 : Ref sig .tc := ⟨.hbm, 284, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S4x8x4096x128 : Shape := ⟨4, ![4, 8, 4096, 128]⟩
abbrev S16384x2048 : Shape := ⟨2, ![16384, 2048]⟩
abbrev S2048x2048 : Shape := ⟨2, ![2048, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S1x8x512x128 : Shape := ⟨4, ![1, 8, 512, 128]⟩
abbrev S512x2048 : Shape := ⟨2, ![512, 2048]⟩
abbrev S1x1x512x128 : Shape := ⟨4, ![1, 1, 512, 128]⟩
abbrev S512x128 : Shape := ⟨2, ![512, 128]⟩
abbrev S512 : Shape := ⟨1, ![512]⟩
abbrev S512x1 : Shape := ⟨2, ![512, 1]⟩
abbrev S1024x2048 : Shape := ⟨2, ![1024, 2048]⟩
abbrev S128x2048 : Shape := ⟨2, ![128, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 14
  | .vmem => 25
  | .smem => 0
  | _ => 0

abbrev bufTy : (tb : Table) → Fin (tcTables nBuf tb) → BufTy
  | .hbm, ⟨0, _⟩ => ⟨S4x8x4096x128, .bf16⟩
  | .hbm, ⟨1, _⟩ => ⟨S4x8x4096x128, .bf16⟩
  | .hbm, ⟨2, _⟩ => ⟨S16384x2048, .f32⟩
  | .hbm, ⟨3, _⟩ => ⟨S2048x2048, .bf16⟩
  | .hbm, ⟨4, _⟩ => ⟨S2048, .f32⟩
  | .hbm, ⟨5, _⟩ => ⟨S2048x5632, .bf16⟩
  | .hbm, ⟨6, _⟩ => ⟨S2048x5632, .bf16⟩
  | .hbm, ⟨7, _⟩ => ⟨S5632x2048, .bf16⟩
  | .hbm, ⟨8, _⟩ => ⟨S2048, .f32⟩
  | .hbm, ⟨9, _⟩ => ⟨S1x2048, .f32⟩
  | .hbm, ⟨10, _⟩ => ⟨S16384x2048, .f32⟩
  | .hbm, ⟨11, _⟩ => ⟨S16384x2048, .bf16⟩
  | .hbm, ⟨12, _⟩ => ⟨S1x2048, .f32⟩
  | .hbm, ⟨13, _⟩ => ⟨S16384x2048, .f32⟩
  | .local _ .vmem, ⟨0, _⟩ => ⟨S1x8x512x128, .bf16⟩
  | .local _ .vmem, ⟨1, _⟩ => ⟨S1x8x512x128, .bf16⟩
  | .local _ .vmem, ⟨2, _⟩ => ⟨S1x8x512x128, .bf16⟩
  | .local _ .vmem, ⟨3, _⟩ => ⟨S1x8x512x128, .bf16⟩
  | .local _ .vmem, ⟨4, _⟩ => ⟨S512x2048, .f32⟩
  | .local _ .vmem, ⟨5, _⟩ => ⟨S512x2048, .f32⟩
  | .local _ .vmem, ⟨6, _⟩ => ⟨S2048x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S1024x2048, .bf16⟩
  | .local _ .vmem, ⟨13, _⟩ => ⟨S1024x2048, .bf16⟩
  | .local _ .vmem, ⟨14, _⟩ => ⟨S128x2048, .f32⟩
  | .local _ .vmem, ⟨15, _⟩ => ⟨S128x2048, .f32⟩
  | .local _ .vmem, ⟨16, _⟩ => ⟨S2048x512, .bf16⟩
  | .local _ .vmem, ⟨17, _⟩ => ⟨S2048x512, .bf16⟩
  | .local _ .vmem, ⟨18, _⟩ => ⟨S2048x512, .bf16⟩
  | .local _ .vmem, ⟨19, _⟩ => ⟨S2048x512, .bf16⟩
  | .local _ .vmem, ⟨20, _⟩ => ⟨S512x2048, .bf16⟩
  | .local _ .vmem, ⟨21, _⟩ => ⟨S512x2048, .bf16⟩
  | .local _ .vmem, ⟨22, _⟩ => ⟨S1x2048, .f32⟩
  | .local _ .vmem, ⟨23, _⟩ => ⟨S1024x2048, .f32⟩
  | .local _ .vmem, ⟨24, _⟩ => ⟨S1024x2048, .f32⟩
  | _, _ => ⟨S4x8x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v2 : Ref sig .tc := ⟨.hbm, 12, rfl⟩
abbrev main_v3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg6_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem6_0 : DmaSem sig := 23
abbrev cc1_sem6_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_1 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![16, 11], ![false, false]⟩

def k1_mult1 (i : grid1.Coords) : BitVec 32 :=
  let arg1 : BitVec 32 := BitVec.ofNat 32 (i 1).val
  let c7_i32 : BitVec 32 := 7#32
  let v25 : BitVec 32 := Scalar.minsi arg1 c7_i32
  let c128_i32 : BitVec 32 := 128#32
  let v26 : BitVec 32 := Scalar.muli v25 c128_i32
  v26
def k1_off1 (i : grid1.Coords) : Fin 2 → Nat :=
  let arg1 : BitVec 32 := BitVec.ofNat 32 (i 1).val
  let c7_i32 : BitVec 32 := 7#32
  let v25 : BitVec 32 := Scalar.minsi arg1 c7_i32
  let c128_i32 : BitVec 32 := 128#32
  let v26 : BitVec 32 := Scalar.muli v25 c128_i32
  let v27 : BitVec 32 := v26
  let v28 : Index := Scalar.indexCast v27
  let c0_17 : Index := 0#32
  ![v28.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.minsi arg1 c7_i32
  let v2 : BitVec 32 := Scalar.addi v0 v1
  let c0_i32 : BitVec 32 := 0#32
  let c0_i32_0 : BitVec 32 := 0#32
  ![v2.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S128x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2048x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x2048 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 1 → Memref sig .tc .vmem S1x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1024x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]
-- ==== Reference2Ideal.lean ====
abbrev S4x8x4096x128 : Shape := ⟨4, ![4, 8, 4096, 128]⟩
abbrev S16384x2048 : Shape := ⟨2, ![16384, 2048]⟩
abbrev S2048x2048 : Shape := ⟨2, ![2048, 2048]⟩
abbrev S2048 : Shape := ⟨1, ![2048]⟩
abbrev S2048x5632 : Shape := ⟨2, ![2048, 5632]⟩
abbrev S5632x2048 : Shape := ⟨2, ![5632, 2048]⟩
abbrev S4x4096x8x128 : Shape := ⟨4, ![4, 4096, 8, 128]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x5632 : Shape := ⟨2, ![16384, 5632]⟩

abbrev nBuf : Space → Nat
  | .hbm => 68
  | .vmem => 0
  | .smem => 0
  | _ => 0

abbrev bufTy : (tb : Table) → Fin (tcTables nBuf tb) → BufTy
  | .hbm, ⟨0, _⟩ => ⟨S4x8x4096x128, .bf16⟩
  | .hbm, ⟨1, _⟩ => ⟨S4x8x4096x128, .bf16⟩
  | .hbm, ⟨2, _⟩ => ⟨S16384x2048, .f32⟩
  | .hbm, ⟨3, _⟩ => ⟨S2048x2048, .bf16⟩
  | .hbm, ⟨4, _⟩ => ⟨S2048, .f32⟩
  | .hbm, ⟨5, _⟩ => ⟨S2048x5632, .bf16⟩
  | .hbm, ⟨6, _⟩ => ⟨S2048x5632, .bf16⟩
  | .hbm, ⟨7, _⟩ => ⟨S5632x2048, .bf16⟩
  | .hbm, ⟨8, _⟩ => ⟨S2048, .f32⟩
  | .hbm, ⟨9, _⟩ => ⟨S2048x2048, .f32⟩
  | .hbm, ⟨10, _⟩ => ⟨S2048x5632, .f32⟩
  | .hbm, ⟨11, _⟩ => ⟨S2048x5632, .f32⟩
  | .hbm, ⟨12, _⟩ => ⟨S5632x2048, .f32⟩
  | .hbm, ⟨13, _⟩ => ⟨S4x8x4096x128, .f32⟩
  | .hbm, ⟨14, _⟩ => ⟨S4x4096x8x128, .f32⟩
  | .hbm, ⟨15, _⟩ => ⟨S16384x1024, .f32⟩
  | .hbm, ⟨16, _⟩ => ⟨S4x8x4096x128, .f32⟩
  | .hbm, ⟨17, _⟩ => ⟨S4x4096x8x128, .f32⟩
  | .hbm, ⟨18, _⟩ => ⟨S16384x1024, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x2048, .f32⟩
  | .hbm, ⟨34, _⟩ => ⟨S16384x2048, .f32⟩
  | .hbm, ⟨35, _⟩ => ⟨S1x2048, .f32⟩
  | .hbm, ⟨36, _⟩ => ⟨S16384x2048, .f32⟩
  | .hbm, ⟨37, _⟩ => ⟨S16384x2048, .f32⟩
  | .hbm, ⟨38, _⟩ => ⟨S16384x5632, .f32⟩
  | .hbm, ⟨39, _⟩ => ⟨S16384x5632, .f32⟩
  | .hbm, ⟨40, _⟩ => ⟨S16384x5632, .f32⟩
  | .hbm, ⟨41, _⟩ => ⟨S_, .f32⟩
  | .hbm, ⟨42, _⟩ => ⟨S16384x5632, .f32⟩
  | .hbm, ⟨43, _⟩ => ⟨S16384x5632, .f32⟩
  | .hbm, ⟨44, _⟩ => ⟨S_, .f32⟩
  | .hbm, ⟨45, _⟩ => ⟨S16384x5632, .f32⟩
  | .hbm, ⟨46, _⟩ => ⟨S16384x5632, .f32⟩
  | .hbm, ⟨47, _⟩ => ⟨S16384x5632, .f32⟩
  | .hbm, ⟨48, _⟩ => ⟨S16384x5632, .f32⟩
  | .hbm, ⟨49, _⟩ => ⟨S16384x5632, .f32⟩
  | .hbm, ⟨50, _⟩ => ⟨S16384x2048, .f32⟩
  | .hbm, ⟨51, _⟩ => ⟨S16384x2048, .f32⟩
  | .hbm, ⟨52, _⟩ => ⟨S16384x2048, .f32⟩
  | .hbm, ⟨53, _⟩ => ⟨S_, .f32⟩
  | .hbm, ⟨54, _⟩ => ⟨S16384, .f32⟩
  | .hbm, ⟨55, _⟩ => ⟨S16384x1, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S_, .f32⟩
  | .hbm, ⟨60, _⟩ => ⟨S16384x1, .f32⟩
  | .hbm, ⟨61, _⟩ => ⟨S16384x1, .f32⟩
  | .hbm, ⟨62, _⟩ => ⟨S16384x1, .f32⟩
  | .hbm, ⟨63, _⟩ => ⟨S16384x2048, .f32⟩
  | .hbm, ⟨64, _⟩ => ⟨S16384x2048, .f32⟩
  | .hbm, ⟨65, _⟩ => ⟨S1x2048, .f32⟩
  | .hbm, ⟨66, _⟩ => ⟨S16384x2048, .f32⟩
  | .hbm, ⟨67, _⟩ => ⟨S16384x2048, .f32⟩
  | _, _ => ⟨S4x8x4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_2 : Ref sig .tc := ⟨.hbm, 53, rfl⟩
abbrev main_v33 : Ref sig .tc := ⟨.hbm, 54, rfl⟩
abbrev main_v34 : Ref sig .tc := ⟨.hbm, 55, rfl⟩
abbrev main_cst_3 : Ref sig .tc := ⟨.hbm, 56, rfl⟩
abbrev main_v35 : Ref sig .tc := ⟨.hbm, 57, rfl⟩
abbrev main_v36 : Ref sig .tc := ⟨.hbm, 58, rfl⟩
abbrev main_cst_4 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩

abbrev nD : Nat := 1
abbrev τ : Topo := Topo.v7x

variable {F : FTy → Type} [FloatOps F]
-- ==== Proof.FfnSpec.lean ====
/-
  The output projection and the feed-forward call, written once as functions of the arguments over the extended reals:
  what both programs of the second pair end at. Every array is a function of its index.
-/
module

public import Idealize.ShloMosaic.Lib.Pointwise

@[expose] public section

noncomputable section

namespace Cert.Ffn

open Idealize.ShloMosaic

/-- The literal `2048.0` both programs divide a row's sum of squares by. -/
abbrev width : EReal := Ideal.ofBits .f32 0x45000000#32
/-- The literal both programs add to the mean square. -/
abbrev eps : EReal := Ideal.ofBits .f32 0x358637BD#32

/-- A row of length `n`, divided by the root of its mean square and scaled by `w`. -/
def rms (f w : Fin 2048 → EReal) (j : Fin 2048) : EReal :=
  f j * Ideal.rsqrt (Ideal.div (∑ k : Fin 2048, f k * f k) width + eps) * w j

/-- `g · σ(g)` times `u`, as both programs spell it. -/
def swiglu (g u : EReal) : EReal :=
  g * Ideal.div 1 (1 + Ideal.exp (-g)) * u

section
variable (A R : (⟨4, ![4, 8, 4096, 128]⟩ : Shape).Idx → EReal) (x : (⟨2, ![16384, 2048]⟩ : Shape).Idx → EReal)
  (wo : (⟨2, ![2048, 2048]⟩ : Shape).Idx → EReal) (nw : (⟨1, ![2048]⟩ : Shape).Idx → EReal)
  (wg wu : (⟨2, ![2048, 5632]⟩ : Shape).Idx → EReal) (wd : (⟨2, ![5632, 2048]⟩ : Shape).Idx → EReal)
  (fw : (⟨1, ![2048]⟩ : Shape).Idx → EReal)

/-- The residual after the output projection: row `t` (batch `t / 4096`, position `t % 4096`) of the first tensor's eight
    heads against the weight's first 1024 rows, of the second's against the other 1024. -/
def hid (t : Fin 16384) (n : Fin 2048) : EReal :=
  x (ix2 t n) +
    ((∑ k : Fin 1024, A (ix4 ⟨t.val / 4096, by omega⟩ ⟨k.val / 128, by omega⟩ ⟨t.val % 4096, by omega⟩ ⟨k.val % 128, by omega⟩)
        * wo (ix2 ⟨k.val, by omega⟩ n))
      + ∑ k : Fin 1024, R (ix4 ⟨t.val / 4096, by omega⟩ ⟨k.val / 128, by omega⟩ ⟨t.val % 4096, by omega⟩ ⟨k.val % 128, by omega⟩)
        * wo (ix2 ⟨1024 + k.val, by omega⟩ n))

/-- Its normalised row, the feed-forward's input. -/
def nrm (t : Fin 16384) : Fin 2048 → EReal := rms (hid A R x wo t) fun j => nw (ix1 j)

/-- The feed-forward's hidden row. -/
def act (N : Fin 16384 → Fin 2048 → EReal) (t : Fin 16384) (c : Fin 5632) : EReal :=
  swiglu (∑ k : Fin 2048, N t k * wg (ix2 k c)) (∑ k : Fin 2048, N t k * wu (ix2 k c))

/-- The second residual. -/
def res (t : Fin 16384) (n : Fin 2048) : EReal :=
  hid A R x wo t n + ∑ c : Fin 5632, act wg wu (nrm A R x wo nw) t c * wd (ix2 c n)

/-- The result, normalised once more. -/
def out (t : Fin 16384) : Fin 2048 → EReal := rms (res A R x wo nw wg wu wd t) fun j => fw (ix1 j)
end

end Cert.Ffn
-- ==== Proof.FfnProj.lean ====
/-
  The output projection's payloads at an index: the sixteen heads laid beside each other are one row of 2048, and the block
  stored is the residual and its normalised row.
-/
module

public import proofs.«01_k».proof.Proof.FfnSpec
public import proofs.«01_k».proof.Proof.Gen.Kernel2Ideal.Frame
public import Idealize.ShloMosaic.Lib.Pipeline.Value

@[expose] public section

noncomputable section

namespace Cert.Kernel2Ideal.Hand

open Cert.Kernel2Ideal Cert.Kernel2Ideal.Gen Idealize.ShloMosaic Idealize.ShloMosaic.TcCoe Idealize.SL.Sem

theorem hz : (![0, 0] : Fin 2 → Nat) = fun _ => 0 := funext fun a => by fin_cases a <;> rfl

/-- Pieces 128 columns wide laid side by side: column `128 * k + l` is column `l` of piece `k`. -/
theorem beside {α : Type} (j : S512x2048.Idx) (xs : List (S512x128.Idx → α))
    (hs : ∀ s ∈ (xs.map fun x => (⟨S512x128, x⟩ : (s : Shape) × (s.Idx → α))).map (·.1), s.FitsOff S512x2048 1) (c : Nat)
    (hc : c < (axisSizes S512x2048 1 (xs.map fun x => (⟨S512x128, x⟩ : (s : Shape) × (s.Idx → α)))).sum)
    (k l : Nat) (hk : k < xs.length) (hl : l < 128) (e : c = 128 * k + l) :
    concatenateAt S512x2048 1 j (xs.map fun x => (⟨S512x128, x⟩ : (s : Shape) × (s.Idx → α))) hs c hc
      = xs[k] (ix2 (j 0) ⟨l, hl⟩) := by
  induction xs generalizing c k with
  | nil => exact absurd hk (Nat.not_lt_zero _)
  | cons x xs ih =>
    cases xs with
    | nil =>
      have h0 : k = 0 := by simpa using hk
      subst h0
      refine (concatenateAt_singleton 1 j x hs c hc).trans (congrArg x (funext fun b => ?_))
      match b with
      | ⟨0, _⟩ => rfl
      | ⟨1, _⟩ => exact Fin.ext (by show c = l; omega)
    | cons y xs =>
      refine (concatenateAt_cons 1 j x ⟨S512x128, y⟩ (xs.map fun x => ⟨S512x128, x⟩) hs c hc).trans ?_
      by_cases hlt : c < 128
      · refine (dif_pos hlt).trans ?_
        have h0 : k = 0 := by omega
        subst h0
        refine congrArg x (funext fun b => ?_)
        match b with
        | ⟨0, _⟩ => rfl
        | ⟨1, _⟩ => exact Fin.ext (by show c = l; omega)
      · refine (dif_neg hlt).trans ?_
        obtain ⟨k, rfl⟩ : ∃ m, k = m + 1 := ⟨k - 1, by omega⟩
        refine (ih _ (c - 128) _ k (by simpa using hk) (by omega)).trans rfl

/-- Head `h`'s slice lies inside a block. -/
theorem slice_inb (h : Fin 8) (a : Fin 4) :
    (![0, h.val, 0, 0] : Fin 4 → Nat) a + S1x1x512x128.size a ≤ S1x8x512x128.size a := by
  match a with
  | ⟨0, _⟩ => show 0 + 1 ≤ 1; omega
  | ⟨1, _⟩ => show h.val + 1 ≤ 8; omega
  | ⟨2, _⟩ => show 0 + 512 ≤ 512; omega
  | ⟨3, _⟩ => show 0 + 128 ≤ 128; omega

/-- One head's slice of a block, as the `[512, 128]` piece the body lays beside the others. -/
theorem head_slice (x : Vec Ideal S1x8x512x128 .bf16) (h : Fin 8)
(r : Fin 512) (d : Fin 128) :
    shapeCast S512x128 (View.ld x (Rect.unit (s := S1x8x512x128) ![0, h.val, 0, 0] S1x1x512x128.size (slice_inb h)) : Vec Ideal S1x1x512x128 .bf16)
      shapeCasts_S1x1x512x128_S512x128 (ix2 r d) = x (ix4 0 h r d) := by
  have hv : ∀ v : Vec Ideal S1x1x512x128 .bf16, shapeCast S512x128 v shapeCasts_S1x1x512x128_S512x128 (ix2 r d) = v (ix4 0 0 r d) := fun v => by
    pointwise
  refine (hv _).trans (congrArg x (funext fun a => Fin.ext ?_))
  match a with
  | ⟨0, _⟩ => rfl
  | ⟨1, _⟩ => rfl
  | ⟨2, _⟩ => show 0 + 1 * r.val = r.val; omega
  | ⟨3, _⟩ => show 0 + 1 * d.val = d.val; omega

/-- Column `k` of the 16 heads laid side by side. -/
def heads (x0 x1 : Vec Ideal S1x8x512x128 .bf16) (r : Fin 512) (k : Fin 2048) : EReal :=
  if h : k.val < 1024 then x0 (ix4 0 ⟨k.val / 128, by omega⟩ r ⟨k.val % 128, by omega⟩)
  else x1 (ix4 0 ⟨(k.val - 1024) / 128, by omega⟩ r ⟨k.val % 128, by omega⟩)

theorem heads_lo (x0 x1 : Vec Ideal S1x8x512x128 .bf16) (r : Fin 512) (h : Fin 8) (l : Fin 128) (k : Fin 2048)
    (hk : k.val = 128 * h.val + l.val) : x0 (ix4 0 h r l) = heads x0 x1 r k := by
  rw [heads, dif_pos (by omega)]
  congr 2 <;> apply Fin.ext <;> dsimp only <;> omega

theorem heads_hi (x0 x1 : Vec Ideal S1x8x512x128 .bf16) (r : Fin 512) (h : Fin 8) (l : Fin 128) (k : Fin 2048)
    (hk : k.val = 128 * (h.val + 8) + l.val) : x1 (ix4 0 h r l) = heads x0 x1 r k := by
  rw [heads, dif_neg (by omega)]
  congr 2 <;> apply Fin.ext <;> dsimp only <;> omega

set_option maxRecDepth 8192 in
theorem pay_h (x0 : Vec Ideal S1x8x512x128 .bf16) (x1 : Vec Ideal S1x8x512x128 .bf16) (x2 : Vec Ideal S512x2048 .f32) (x3 : Vec Ideal S2048x2048 .bf16) (x4 : Vec Ideal S1x2048 .f32) (r : Fin 512) (n : Fin 2048) :
    out0_5 (F := Ideal) x0 x1 x2 x3 x4 (ix2 r n) = x2 (ix2 r n) + ∑ k : Fin 2048, heads x0 x1 r k * x3 (ix2 k n) := by
  unfold_out out0_5
  rw [View.canon_unit_zero hz]
  simp only [View.ld_unit_zero (S := S512x2048) hz, View.ld_unit_zero (S := S2048x2048) hz]
  unfold k0_pay11
  generalize hC : concatenate S512x2048 1 _ _ = C
  have hk : ∀ k, C (ix2 r k) = heads x0 x1 r k := fun k => by
    subst hC
    rw [concatenate_apply]
    obtain ⟨h, l, e | e⟩ : ∃ h : Fin 8, ∃ l : Fin 128, k.val = 128 * h.val + l.val ∨ k.val = 128 * (h.val + 8) + l.val := by
      refine ⟨⟨k.val / 128 % 8, by omega⟩, ⟨k.val % 128, by omega⟩, ?_⟩
      show k.val = 128 * (k.val / 128 % 8) + k.val % 128 ∨ k.val = 128 * (k.val / 128 % 8 + 8) + k.val % 128
      omega
    · refine (beside (ix2 r k) [_, _, _, _, _, _, _, _, _, _, _, _, _, _, _, _] _ _ _ h.val l.val (by show _ < 16; omega) l.isLt e).trans ?_
      refine Eq.trans (congrFun ?_ _) ((head_slice x0 h r l).trans (heads_lo x0 x1 r h l k e))
      clear e
      fin_cases h <;> rfl
    · refine (beside (ix2 r k) [_, _, _, _, _, _, _, _, _, _, _, _, _, _, _, _] _ _ _ (h.val + 8) l.val (by show _ < 16; omega) l.isLt e).trans ?_
      refine Eq.trans (congrFun ?_ _) ((head_slice x1 h r l).trans (heads_hi x0 x1 r h l k e))
      clear e
      fin_cases h <;> rfl
  clear hC
  pointwise
  simp only [hk]

set_option maxRecDepth 8192 in
theorem pay_n (x0 : Vec Ideal S1x8x512x128 .bf16) (x1 : Vec Ideal S1x8x512x128 .bf16) (x2 : Vec Ideal S512x2048 .f32) (x3 : Vec Ideal S2048x2048 .bf16) (x4 : Vec Ideal S1x2048 .f32) (r : Fin 512) (n : Fin 2048) :
    out0_6 (F := Ideal) x0 x1 x2 x3 x4 (ix2 r n)
      = Ffn.rms (fun k => out0_5 (F := Ideal) x0 x1 x2 x3 x4 (ix2 r k)) (fun k => x4 (ix2 0 k)) n := by
  unfold out0_5 out0_6
  rw [View.canon_unit_zero hz, View.canon_unit_zero hz]
  simp only [View.ld_unit_zero (S := S512x2048) hz, View.ld_unit_zero (S := S1x2048) hz, View.ld_unit_zero (S := S2048x2048) hz]
  unfold k0_pay13
  generalize k0_pay11 (F := Ideal) _ _ _ _ _ _ _ _ _ _ _ _ _ _ _ _ _ _ = H
  pointwise [k0_pay1, k0_pay12]
  rfl

end Cert.Kernel2Ideal.Hand
-- ==== Proof.FfnMid.lean ====
/-
  The output projection's region: the two arrays its grid of 32 row blocks leaves are the residual (`Ffn.hid`) and its
  normalised rows.
-/
module

public import proofs.«01_k».proof.Proof.FfnProj

@[expose] public section

noncomputable section

namespace Cert.Kernel2Ideal.Hand

open Cert.Kernel2Ideal Cert.Kernel2Ideal.Gen Idealize.ShloMosaic Idealize.ShloMosaic.TcCoe Idealize.SL.Sem

variable (V : (c : Dev nD) → (b : Ref sig .tc) → Buf (Elt Ideal) ((c : Thread nD τ).loc b)) (c : Dev nD)

/-- The block indices of the region's windows, at every grid point. -/
theorem index0 : ∀ t : Fin cfg0.N,
    (win0_0.index t 0 = t.val / 8 ∧ win0_0.index t 1 = 0 ∧ win0_0.index t 2 = t.val % 8 ∧ win0_0.index t 3 = 0)
    ∧ (win0_1.index t 0 = t.val / 8 ∧ win0_1.index t 1 = 0 ∧ win0_1.index t 2 = t.val % 8 ∧ win0_1.index t 3 = 0)
    ∧ (win0_2.index t 0 = t.val ∧ win0_2.index t 1 = 0) ∧ (win0_3.index t 0 = 0 ∧ win0_3.index t 1 = 0)
    ∧ (win0_4.index t 0 = 0 ∧ win0_4.index t 1 = 0) ∧ (win0_5.index t 0 = t.val ∧ win0_5.index t 1 = 0)
    ∧ (win0_6.index t 0 = t.val ∧ win0_6.index t 1 = 0) :=
  (by decide +kernel : ∀ t : Fin grid0.N, _)

/-- Row `r` of point `t`'s block is row `512 t + r` of the array. -/
def row0 (t : Fin cfg0.N) (r : Fin 512) : Fin 16384 :=
  ⟨512 * t.val + r.val, by have := t.isLt; have h : cfg0.N = 32 := N_0; omega⟩

/-- The first tensor's block at a point: eight heads of 512 positions. -/
theorem blk0_0 (t : Fin cfg0.N) (h : Fin 8) (r : Fin 512) (d : Fin 128) :
    (iblk0 V c 0 t : Vec Ideal S1x8x512x128 .bf16) (ix4 0 h r d)
      = V c main_arg0 (ix4 ⟨(row0 t r).val / 4096, by omega⟩ h ⟨(row0 t r).val % 4096, by omega⟩ d) := by
  have hi := (index0 t).1
  unfold iblk0
  rw [View.read_apply]
  show V c main_arg0 _ = _
  congr 1
  funext a
  apply Fin.ext
  match a with
  | ⟨0, _⟩ => show win0_0.index t 0 * 1 + 1 * 0 = (512 * t.val + r.val) / 4096; rw [hi.1]; omega
  | ⟨1, _⟩ => show win0_0.index t 1 * 8 + 1 * h.val = h.val; rw [hi.2.1]; omega
  | ⟨2, _⟩ => show win0_0.index t 2 * 512 + 1 * r.val = (512 * t.val + r.val) % 4096; rw [hi.2.2.1]; omega
  | ⟨3, _⟩ => show win0_0.index t 3 * 128 + 1 * d.val = d.val; rw [hi.2.2.2]; omega

/-- The second tensor's block, likewise. -/
theorem blk0_1 (t : Fin cfg0.N) (h : Fin 8) (r : Fin 512) (d : Fin 128) :
    (iblk0 V c 1 t : Vec Ideal S1x8x512x128 .bf16) (ix4 0 h r d)
      = V c main_arg1 (ix4 ⟨(row0 t r).val / 4096, by omega⟩ h ⟨(row0 t r).val % 4096, by omega⟩ d) := by
  have hi := (index0 t).2.1
  unfold iblk0
  rw [View.read_apply]
  show V c main_arg1 _ = _
  congr 1
  funext a
  apply Fin.ext
  match a with
  | ⟨0, _⟩ => show win0_1.index t 0 * 1 + 1 * 0 = (512 * t.val + r.val) / 4096; rw [hi.1]; omega
  | ⟨1, _⟩ => show win0_1.index t 1 * 8 + 1 * h.val = h.val; rw [hi.2.1]; omega
  | ⟨2, _⟩ => show win0_1.index t 2 * 512 + 1 * r.val = (512 * t.val + r.val) % 4096; rw [hi.2.2.1]; omega
  | ⟨3, _⟩ => show win0_1.index t 3 * 128 + 1 * d.val = d.val; rw [hi.2.2.2]; omega

/-- The residual stream's block of 512 rows. -/
theorem blk0_2 (t : Fin cfg0.N) (r : Fin 512) (n : Fin 2048) :
    (iblk0 V c 2 t : Vec Ideal S512x2048 .f32) (ix2 r n) = V c main_arg2 (ix2 (row0 t r) n) := by
  have hi := (index0 t).2.2.1
  unfold iblk0
  rw [View.read_apply]
  show V c main_arg2 _ = _
  congr 1
  funext a
  apply Fin.ext
  match a with
  | ⟨0, _⟩ => show win0_2.index t 0 * 512 + 1 * r.val = 512 * t.val + r.val; rw [hi.1]; omega
  | ⟨1, _⟩ => show win0_2.index t 1 * 2048 + 1 * n.val = n.val; rw [hi.2]; omega

/-- The output weight, whole at every point. -/
theorem blk0_3 (t : Fin cfg0.N) (k n : Fin 2048) :
    (iblk0 V c 3 t : Vec Ideal S2048x2048 .bf16) (ix2 k n) = V c main_arg3 (ix2 k n) := by
  have hi := (index0 t).2.2.2.1
  unfold iblk0
  rw [View.read_apply]
  show V c main_arg3 _ = _
  congr 1
  funext a
  apply Fin.ext
  match a with
  | ⟨0, _⟩ => show win0_3.index t 0 * 2048 + 1 * k.val = k.val; rw [hi.1]; omega
  | ⟨1, _⟩ => show win0_3.index t 1 * 2048 + 1 * n.val = n.val; rw [hi.2]; omega

/-- The norm's weights, whole at every point. -/
theorem blk0_4 (t : Fin cfg0.N) (n : Fin 2048) :
    (iblk0 V c 4 t : Vec Ideal S1x2048 .f32) (ix2 0 n) = V c main_v0 (ix2 0 n) := by
  have hi := (index0 t).2.2.2.2.1
  unfold iblk0
  rw [View.read_apply]
  show V c main_v0 _ = _
  congr 1
  funext a
  apply Fin.ext
  match a with
  | ⟨0, _⟩ => show win0_4.index t 0 * 1 + 1 * 0 = 0; rw [hi.1]
  | ⟨1, _⟩ => show win0_4.index t 1 * 2048 + 1 * n.val = n.val; rw [hi.2]; omega

/-- The sum over the 16 heads' columns is the sum over the first tensor's and the sum over the second's. -/
theorem heads_sum (x0 x1 : Vec Ideal S1x8x512x128 .bf16) (r : Fin 512) (w : Fin 2048 → EReal) :
    ∑ k : Fin 2048, heads x0 x1 r k * w k
      = (∑ k : Fin 1024, x0 (ix4 0 ⟨k.val / 128, by omega⟩ r ⟨k.val % 128, by omega⟩) * w ⟨k.val, by omega⟩)
        + ∑ k : Fin 1024, x1 (ix4 0 ⟨k.val / 128, by omega⟩ r ⟨k.val % 128, by omega⟩) * w ⟨1024 + k.val, by omega⟩ := by
  refine (Fin.sum_univ_add (a := 1024) (b := 1024) fun k => heads x0 x1 r k * w k).trans ?_
  refine congrArg₂ (· + ·) (Finset.sum_congr rfl fun k _ => congrArg (· * _) ?_) (Finset.sum_congr rfl fun k _ => congrArg (· * _) ?_)
  · exact (heads_lo x0 x1 r ⟨k.val / 128, by omega⟩ ⟨k.val % 128, by omega⟩ _
      (by show k.val = 128 * (k.val / 128) + k.val % 128; omega)).symm
  · exact (heads_hi x0 x1 r ⟨k.val / 128, by omega⟩ ⟨k.val % 128, by omega⟩ _
      (by show 1024 + k.val = 128 * (k.val / 128 + 8) + k.val % 128; omega)).symm

/-- The residual as the region's arguments give it. -/
abbrev hid0 : Fin 16384 → Fin 2048 → EReal :=
  Ffn.hid (V c main_arg0) (V c main_arg1) (V c main_arg2) (V c main_arg3)

theorem out_h (t : Fin cfg0.N) (r : Fin 512) (n : Fin 2048) :
    ((dat0 V c).after 5 t : Vec Ideal S512x2048 .f32) (ix2 r n) = hid0 V c (row0 t r) n := by
  rw [after0_5, pay_h, heads_sum, blk0_2]
  simp only [blk0_0, blk0_1, blk0_3]
  rfl

theorem out_n (t : Fin cfg0.N) (r : Fin 512) (n : Fin 2048) :
    ((dat0 V c).after 6 t : Vec Ideal S512x2048 .bf16) (ix2 r n)
      = Ffn.rms (hid0 V c (row0 t r)) (fun k => V c main_v0 (ix2 0 k)) n := by
  rw [after0_6, pay_n]
  have e1 : (fun k => out0_5 (F := Ideal) (iblk0 V c 0 t) (iblk0 V c 1 t) (iblk0 V c 2 t) (iblk0 V c 3 t) (iblk0 V c 4 t) (ix2 r k))
      = hid0 V c (row0 t r) := funext fun k => by rw [← out_h, after0_5]
  have e2 : (fun k => (iblk0 V c 4 t : Vec Ideal S1x2048 .f32) (ix2 0 k)) = fun k => V c main_v0 (ix2 0 k) :=
    funext fun k => blk0_4 V c t k
  exact congrArg₂ (fun f w => Ffn.rms f w n) e1 e2

/-- The first result array: the residual. -/
def arr5 : Buf (Elt Ideal) ((c : Thread nD τ).loc main_v1_0) := fun i => hid0 V c (i 0) (i 1)
/-- The second: its normalised rows. -/
def arr6 : Buf (Elt Ideal) ((c : Thread nD τ).loc main_v1_1) := fun i =>
  Ffn.rms (hid0 V c (i 0)) (fun k => V c main_v0 (ix2 0 k)) (i 1)

theorem flushed5 (t : Fin cfg0.N) : (dat0 V c).flushed 5 t = (win0_5.blk t).view.read (Elt Ideal) (arr5 V c) := by
  have hi := (index0 t).2.2.2.2.2.1
  show (cfg0.win 5).cut (grid0.coords t) ((dat0 V c).after 5 t) = _
  funext j
  rw [View.read_apply]
  refine (congrArg ((dat0 V c).after 5 t) (eq_ix2 (n0 := 512) (n1 := 2048) j)).trans ((out_h V c t (j 0) (j 1)).trans ?_)
  refine congrArg₂ (hid0 V c) (Fin.ext ?_) (Fin.ext ?_)
  · show 512 * t.val + (j 0).val = win0_5.index t 0 * 512 + 1 * (j 0).val; rw [hi.1]; omega
  · show (j 1).val = win0_5.index t 1 * 2048 + 1 * (j 1).val; rw [hi.2]; omega

theorem flushed6 (t : Fin cfg0.N) : (dat0 V c).flushed 6 t = (win0_6.blk t).view.read (Elt Ideal) (arr6 V c) := by
  have hi := (index0 t).2.2.2.2.2.2
  show (cfg0.win 6).cut (grid0.coords t) ((dat0 V c).after 6 t) = _
  funext j
  rw [View.read_apply]
  refine (congrArg ((dat0 V c).after 6 t) (eq_ix2 (n0 := 512) (n1 := 2048) j)).trans ((out_n V c t (j 0) (j 1)).trans ?_)
  refine congrArg₂ (fun T n => Ffn.rms (hid0 V c T) (fun k => V c main_v0 (ix2 0 k)) n) (Fin.ext ?_) (Fin.ext ?_)
  · show 512 * t.val + (j 0).val = win0_6.index t 0 * 512 + 1 * (j 0).val; rw [hi.1]; omega
  · show (j 1).val = win0_6.index t 1 * 2048 + 1 * (j 1).val; rw [hi.2]; omega

/-- Every row of the first result lies in the block of its point. -/
theorem cover5 (i : S16384x2048.Idx) :
    ∃ t : Fin cfg0.N, (cfg0.win 5).flush t = true ∧ i ∈ ((cfg0.win 5).blk t).view.set := by
  have h0 : (i 0).val < 16384 := (i 0).isLt
  have h1 : (i 1).val < 2048 := (i 1).isLt
  have hN : cfg0.N = 32 := N_0
  obtain ⟨t, ht⟩ : ∃ t : Fin cfg0.N, t.val = (i 0).val / 512 := ⟨⟨_, by omega⟩, rfl⟩
  refine ⟨t, flush0_5 t, ?_⟩
  have hi := (index0 t).2.2.2.2.2.1
  show i ∈ ((View.whole main_v1_0).slice (win0_5.rect t)).set
  rw [View.set_slice_whole, Rect.mem_set_unit]
  intro a
  match a with
  | ⟨0, _⟩ => show win0_5.index t 0 * 512 ≤ (i 0).val ∧ (i 0).val < win0_5.index t 0 * 512 + 512; rw [hi.1]; omega
  | ⟨1, _⟩ => show win0_5.index t 1 * 2048 ≤ (i 1).val ∧ (i 1).val < win0_5.index t 1 * 2048 + 2048; rw [hi.2]; omega

theorem cover6 (i : S16384x2048.Idx) :
    ∃ t : Fin cfg0.N, (cfg0.win 6).flush t = true ∧ i ∈ ((cfg0.win 6).blk t).view.set := by
  have h0 : (i 0).val < 16384 := (i 0).isLt
  have h1 : (i 1).val < 2048 := (i 1).isLt
  have hN : cfg0.N = 32 := N_0
  obtain ⟨t, ht⟩ : ∃ t : Fin cfg0.N, t.val = (i 0).val / 512 := ⟨⟨_, by omega⟩, rfl⟩
  refine ⟨t, flush0_6 t, ?_⟩
  have hi := (index0 t).2.2.2.2.2.2
  show i ∈ ((View.whole main_v1_1).slice (win0_6.rect t)).set
  rw [View.set_slice_whole, Rect.mem_set_unit]
  intro a
  match a with
  | ⟨0, _⟩ => show win0_6.index t 0 * 512 ≤ (i 0).val ∧ (i 0).val < win0_6.index t 0 * 512 + 512; rw [hi.1]; omega
  | ⟨1, _⟩ => show win0_6.index t 1 * 2048 ≤ (i 1).val ∧ (i 1).val < win0_6.index t 1 * 2048 + 2048; rw [hi.2]; omega

/-- So the region leaves the residual in its first result array, -/
theorem final5 : (dat0 V c).arrAt 5 cfg0.N = arr5 V c :=
  (dat0 V c).arrAt_eq_of_cover 5 (arr5 V c) (fun t _ => flushed5 V c t) cover5

/-- and the normalised rows in its second. -/
theorem final6 : (dat0 V c).arrAt 6 cfg0.N = arr6 V c :=
  (dat0 V c).arrAt_eq_of_cover 6 (arr6 V c) (fun t _ => flushed6 V c t) cover6

end Cert.Kernel2Ideal.Hand
-- ==== Proof.FfnFold.lean ====
/-
  One point of the feed-forward's region, as a function of the accumulator it finds: the three forms that the body's conditionals
  leave are all `step`, read at an index.
-/
module

public import proofs.«01_k».proof.Proof.FfnMid

@[expose] public section

noncomputable section

namespace Cert.Kernel2Ideal.Hand

open Cert.Kernel2Ideal Cert.Kernel2Ideal.Gen Idealize.ShloMosaic Idealize.ShloMosaic.TcCoe Idealize.SL.Sem

/-- The feed-forward body's two stores before the last point's: the accumulator `P`, whole, then the rows at `off` with
    the residual's block `h` added. -/
def step (w : BitVec 32) (off : Fin 2 → Nat) (inb : ∀ a, off a + S128x2048.size a ≤ S1024x2048.size a)
    (P : Vec Ideal S1024x2048 .f32) (h : Vec Ideal S128x2048 .f32) : Vec Ideal S1024x2048 .f32 :=
  View.canon (Val := Elt Ideal) [⟨Rect.unit (s := S1024x2048) off S128x2048.size inb,
    k1_pay1 (F := Ideal) w (k1_pay5 (F := Ideal) (View.ld (Val := Elt Ideal) (S := S1024x2048) (e' := .f32) P (Rect.unit (s := S1024x2048) off S128x2048.size inb))) h⟩,
    ⟨Rect.unit (s := S1024x2048) ![0, 0] S1024x2048.size inb_S1024x2048_S1024x2048_0_0, P⟩]

/-- What was stored before a whole store does not matter. -/
theorem canon_drop (p : View.Piece (Elt Ideal) S1024x2048 .f32) (P : Vec Ideal S1024x2048 .f32)
    (L : List (View.Piece (Elt Ideal) S1024x2048 .f32)) :
    View.canon (p :: ⟨Rect.unit (s := S1024x2048) ![0, 0] S1024x2048.size inb_S1024x2048_S1024x2048_0_0, P⟩ :: L)
      = View.canon [p, ⟨Rect.unit (s := S1024x2048) ![0, 0] S1024x2048.size inb_S1024x2048_S1024x2048_0_0, P⟩] := by
  rw [View.canon_cons, View.canon_cons p, View.canon_cons_unit_zero (S := S1024x2048) hz, View.canon_unit_zero (S := S1024x2048) hz]

/-- The body's test `f < 8` on words, decided. -/
theorem below8 (f : ℕ) (hf : f < 11) :
    (Scalar.sitofp (F := Ideal) .f32 (Scalar.extui (Scalar.cmpi .slt (BitVec.ofNat 32 f) 8#32) : BitVec 32) : EReal) = if f < 8 then 1 else 0 := by
  have e : (Scalar.extui (Scalar.cmpi .slt (BitVec.ofNat 32 f) 8#32) : BitVec 32).toInt = if f < 8 then 1 else 0 := by
    interval_cases f <;> rfl
  show (((Scalar.extui (Scalar.cmpi .slt (BitVec.ofNat 32 f) 8#32) : BitVec 32).toInt : ℝ) : EReal) = _
  rw [e]
  split <;> simp

/-- The second store's value: the rows read, plus the residual's block where `f < 8`. -/
theorem pay_row (f : ℕ) (hf : f < 11) (p h : Vec Ideal S128x2048 .f32) (r : Fin 128) (n : Fin 2048) :
    k1_pay1 (F := Ideal) (BitVec.ofNat 32 f) (k1_pay5 (F := Ideal) p) h (ix2 r n)
      = p (ix2 r n) + h (ix2 r n) * if f < 8 then 1 else 0 := by
  rw [← below8 f hf]
  pointwise [k1_pay1, k1_pay5]

/-- A point's body at an index: the stored sum, plus the residual on the 128 rows whose turn it is. -/
theorem step_apply (f q : ℕ) (hf : f < 11) (off : Fin 2 → Nat) (hoff : off = ![128 * q, 0])
    (inb : ∀ a, off a + S128x2048.size a ≤ S1024x2048.size a)
    (P : Vec Ideal S1024x2048 .f32) (h : Vec Ideal S128x2048 .f32) (r : Fin 1024) (n : Fin 2048) :
    step (BitVec.ofNat 32 f) off inb P h (ix2 r n)
      = P (ix2 r n) + if r.val / 128 = q then h (ix2 ⟨r.val % 128, by omega⟩ n) * (if f < 8 then 1 else 0) else 0 := by
  subst hoff
  unfold step
  by_cases hr : r.val / 128 = q
  · rw [if_pos hr]
    have he : (Rect.unit (s := S1024x2048) ![128 * q, 0] S128x2048.size inb).emb (ix2 ⟨r.val % 128, by omega⟩ n) = ix2 r n :=
      funext fun a => Fin.ext (match a with
        | ⟨0, _⟩ => by show 128 * q + 1 * (r.val % 128) = r.val; omega
        | ⟨1, _⟩ => by show 0 + 1 * n.val = n.val; omega)
    rw [← he, View.canon_cons_emb, pay_row f hf]
    rfl
  · rw [if_neg hr, View.canon_cons_of_not_mem, View.canon_unit_zero (S := S1024x2048) hz, add_zero]
    rw [Rect.mem_set_unit]
    intro hall
    have h0 : 128 * q ≤ r.val ∧ r.val < 128 * q + 128 := hall 0
    omega

variable (V : (c : Dev nD) → (b : Ref sig .tc) → Buf (Elt Ideal) ((c : Thread nD τ).loc b)) (c : Dev nD)

/-- The first point of a row block leaves `step` of the zero accumulator. -/
theorem fold_A (t : Fin cfg1.N) (h0 : t.val % 11 = 0) (h1 : ¬t.val % 11 = 10) :
    outsAt1 V c t.val t.isLt = step (BitVec.ofNat 32 (grid1.coords t 1).val) (k1_off1 (grid1.coords t)) (k1_off1_inb _)
      (k1_pay4 (F := Ideal) (iblk1 V c 0 t) (iblk1 V c 2 t) (iblk1 V c 3 t) (k1_pay3 (F := Ideal)) (iblk1 V c 4 t)) (iblk1 V c 1 t) := by
  rw [outsAt1_A V c t h0 h1]
  unfold out1_A_6
  rw [View.read_writes_junk_eq_canon]
  unfold kernelRun1_A
  dsimp only
  sl_unfold_words
  refine (canon_drop _ _ _).trans ?_
  simp only [View.readAt_eq_ld, (hs1_0 t).read_unread, (hs1_1 t).read_unread, (hs1_2 t).read_unread, (hs1_3 t).read_unread, (hs1_4 t).read_unread, View.read_writes_junk_eq_canon,
    View.readCov_unit_zero (S := S1024x2048) _ hz, View.canon_cons_unit_zero (S := S1024x2048) hz, View.ld_unit_zero (S := S1024x2048) hz, View.ld_unit_zero (S := S2048x512) hz,
    View.ld_unit_zero (S := S512x2048) hz, View.ld_unit_zero (S := S128x2048) hz]
  rfl

/-- A middle point leaves `step` of what the point before left. -/
theorem fold_B (t : Fin cfg1.N) (h0 : ¬t.val % 11 = 0) (h1 : ¬t.val % 11 = 10) :
    outsAt1 V c t.val t.isLt = step (BitVec.ofNat 32 (grid1.coords t 1).val) (k1_off1 (grid1.coords t)) (k1_off1_inb _)
      (k1_pay4 (F := Ideal) (iblk1 V c 0 t) (iblk1 V c 2 t) (iblk1 V c 3 t) (outsAt1 V c (t.val - 1) (Nat.lt_of_le_of_lt (Nat.sub_le _ _) t.isLt)) (iblk1 V c 4 t)) (iblk1 V c 1 t) := by
  rw [outsAt1_B V c t h0 h1]
  unfold out1_B_6
  rw [View.read_writes_junk_eq_canon]
  unfold kernelRun1_B
  dsimp only
  sl_unfold_words
  refine (canon_drop _ _ _).trans ?_
  simp only [View.readAt_eq_ld, (hs1_0 t).read_unread, (hs1_1 t).read_unread, (hs1_2 t).read_unread, (hs1_3 t).read_unread, (hs1_4 t).read_unread, (hs1_6 t).read_unread, View.read_writes_junk_eq_canon,
    View.canon_cons_unit_zero (S := S1024x2048) hz, View.ld_unit_zero (S := S1024x2048) hz, View.ld_unit_zero (S := S2048x512) hz,
    View.ld_unit_zero (S := S512x2048) hz, View.ld_unit_zero (S := S128x2048) hz]
  rfl

/-- The last point leaves the normalisation of `step` of what the point before left. -/
theorem fold_C (t : Fin cfg1.N) (h0 : ¬t.val % 11 = 0) (h1 : t.val % 11 = 10) :
    outsAt1 V c t.val t.isLt = k1_pay2 (F := Ideal) (step (BitVec.ofNat 32 (grid1.coords t 1).val) (k1_off1 (grid1.coords t)) (k1_off1_inb _)
      (k1_pay4 (F := Ideal) (iblk1 V c 0 t) (iblk1 V c 2 t) (iblk1 V c 3 t) (outsAt1 V c (t.val - 1) (Nat.lt_of_le_of_lt (Nat.sub_le _ _) t.isLt)) (iblk1 V c 4 t)) (iblk1 V c 1 t)) (iblk1 V c 5 t) := by
  rw [outsAt1_C V c t h0 h1]
  unfold out1_C_6
  rw [View.read_writes_junk_eq_canon]
  unfold kernelRun1_C
  dsimp only
  sl_unfold_words
  rw [View.canon_cons_unit_zero (S := S1024x2048) hz]
  simp only [View.readAt_eq_ld, (hs1_0 t).read_unread, (hs1_1 t).read_unread, (hs1_2 t).read_unread, (hs1_3 t).read_unread, (hs1_4 t).read_unread, (hs1_5 t).read_unread, (hs1_6 t).read_unread, View.read_writes_junk_eq_canon,
    View.canon_cons_unit_zero (S := S1024x2048) hz, View.ld_unit_zero (S := S1024x2048) hz, View.ld_unit_zero (S := S2048x512) hz,
    View.ld_unit_zero (S := S512x2048) hz, View.ld_unit_zero (S := S128x2048) hz, View.ld_unit_zero (S := S1x2048) hz]
  refine congrArg (fun X => k1_pay2 (F := Ideal) X (iblk1 V c 5 t)) ?_
  rw [View.readCov_eq_canon']
  refine Eq.trans ?_ (View.ld_unit_zero (S := S1024x2048) hz inb_S1024x2048_S1024x2048_0_0 _)
  rfl

end Cert.Kernel2Ideal.Hand
-- ==== Proof.FfnDown.lean ====
/-
  The feed-forward's region: over the eleven column blocks of a row block the staging buffer accumulates the gated product
  and, eight rows of blocks at a time, the residual; the last point normalises. What the grid leaves is `Ffn.out`'s shape.
-/
module

public import proofs.«01_k».proof.Proof.FfnFold

@[expose] public section

noncomputable section

namespace Cert.Kernel2Ideal.Hand

open Cert.Kernel2Ideal Cert.Kernel2Ideal.Gen Idealize.ShloMosaic Idealize.ShloMosaic.TcCoe Idealize.SL.Sem

/-- The stored sum at an index: the accumulator plus the column block's gated products against the down weight. -/
theorem pay4_apply (x0 : Vec Ideal S1024x2048 .bf16) (x2 x3 : Vec Ideal S2048x512 .bf16) (a : Vec Ideal S1024x2048 .f32) (x4 : Vec Ideal S512x2048 .bf16)
    (r : Fin 1024) (n : Fin 2048) :
    k1_pay4 (F := Ideal) x0 x2 x3 a x4 (ix2 r n)
      = a (ix2 r n) + ∑ k : Fin 512, Ffn.swiglu (∑ l : Fin 2048, x0 (ix2 r l) * x2 (ix2 l k)) (∑ l : Fin 2048, x0 (ix2 r l) * x3 (ix2 l k)) * x4 (ix2 k n) := by
  pointwise [k1_pay4]
  simp only [Ffn.swiglu, zero_sub]

/-- The accumulator starts at zero. -/
theorem pay3_apply (r : Fin 1024) (n : Fin 2048) : k1_pay3 (F := Ideal) (ix2 r n) = 0 := by
  pointwise [k1_pay3]

/-- The last store's value: the accumulator's row normalised. -/
theorem pay2_apply (x : Vec Ideal S1024x2048 .f32) (w : Vec Ideal S1x2048 .f32) (r : Fin 1024) (n : Fin 2048) :
    k1_pay2 (F := Ideal) x w (ix2 r n) = Ffn.rms (fun k => x (ix2 r k)) (fun k => w (ix2 0 k)) n := by
  pointwise [k1_pay2]
  rfl

variable (V : (c : Dev nD) → (b : Ref sig .tc) → Buf (Elt Ideal) ((c : Thread nD τ).loc b)) (c : Dev nD)

/-- The block indices of the region's windows, at every grid point. -/
theorem index1 : ∀ t : Fin cfg1.N,
    (win1_0.index t 0 = t.val / 11 ∧ win1_0.index t 1 = 0)
    ∧ (win1_1.index t 0 = 8 * (t.val / 11) + min (t.val % 11) 7 ∧ win1_1.index t 1 = 0)
    ∧ (win1_2.index t 0 = 0 ∧ win1_2.index t 1 = t.val % 11) ∧ (win1_3.index t 0 = 0 ∧ win1_3.index t 1 = t.val % 11)
    ∧ (win1_4.index t 0 = t.val % 11 ∧ win1_4.index t 1 = 0) ∧ (win1_5.index t 0 = 0 ∧ win1_5.index t 1 = 0)
    ∧ (win1_6.index t 0 = t.val / 11 ∧ win1_6.index t 1 = 0) :=
  (by decide +kernel : ∀ t : Fin grid1.N, _)

/-- The second grid coordinate, and the rows the body's second store starts at. -/
theorem coord1 : ∀ t : Fin cfg1.N, (grid1.coords t 1).val = t.val % 11 ∧ k1_off1 (grid1.coords t) 0 = 128 * min (t.val % 11) 7
      ∧ k1_off1 (grid1.coords t) 1 = 0 :=
  (by decide +kernel : ∀ t : Fin grid1.N, _)

/-- Row `r` of row block `i`. -/
def row1 (t : Fin cfg1.N) (r : Fin 1024) : Fin 16384 :=
  ⟨1024 * (t.val / 11) + r.val, by have := t.isLt; have h : cfg1.N = 176 := N_1; omega⟩
/-- Column `k` of column block `f` (of eleven). -/
def col (f : ℕ) (k : Fin 512) : Fin 5632 := ⟨(512 * f + k.val) % 5632, by omega⟩

/-- The first window's block at a point: the normalised rows of the row block. -/
theorem blk1_0 (t : Fin cfg1.N) (r : Fin 1024) (n : Fin 2048) :
    (iblk1 V c 0 t : Vec Ideal S1024x2048 .bf16) (ix2 r n) = V c main_v1_1 (ix2 (row1 t r) n) := by
  have hi := (index1 t).1
  unfold iblk1
  rw [View.read_apply]
  show V c main_v1_1 _ = _
  congr 1
  funext a
  apply Fin.ext
  match a with
  | ⟨0, _⟩ => show win1_0.index t 0 * 1024 + 1 * r.val = 1024 * (t.val / 11) + r.val; rw [hi.1]; omega
  | ⟨1, _⟩ => show win1_0.index t 1 * 2048 + 1 * n.val = n.val; rw [hi.2]; omega

/-- The residual's block of 128 rows, read at the row of the row block whose turn it is. -/
theorem blk1_1 (t : Fin cfg1.N) (r : Fin 1024) (hr : r.val / 128 = min (t.val % 11) 7) (n : Fin 2048) :
    (iblk1 V c 1 t : Vec Ideal S128x2048 .f32) (ix2 ⟨r.val % 128, by omega⟩ n) = V c main_v1_0 (ix2 (row1 t r) n) := by
  have hi := (index1 t).2.1
  unfold iblk1
  rw [View.read_apply]
  show V c main_v1_0 _ = _
  congr 1
  funext a
  apply Fin.ext
  match a with
  | ⟨0, _⟩ => show win1_1.index t 0 * 128 + 1 * (r.val % 128) = 1024 * (t.val / 11) + r.val; rw [hi.1, ← hr]; omega
  | ⟨1, _⟩ => show win1_1.index t 1 * 2048 + 1 * n.val = n.val; rw [hi.2]; omega

/-- The gate weight's column block. -/
theorem blk1_2 (t : Fin cfg1.N) (l : Fin 2048) (k : Fin 512) :
    (iblk1 V c 2 t : Vec Ideal S2048x512 .bf16) (ix2 l k) = V c main_arg5 (ix2 l (col (t.val % 11) k)) := by
  have hi := (index1 t).2.2.1
  unfold iblk1
  rw [View.read_apply]
  show V c main_arg5 _ = _
  congr 1
  funext a
  apply Fin.ext
  match a with
  | ⟨0, _⟩ => show win1_2.index t 0 * 2048 + 1 * l.val = l.val; rw [hi.1]; omega
  | ⟨1, _⟩ => show win1_2.index t 1 * 512 + 1 * k.val = (512 * (t.val % 11) + k.val) % 5632; rw [hi.2]; omega

/-- The up weight's column block. -/
theorem blk1_3 (t : Fin cfg1.N) (l : Fin 2048) (k : Fin 512) :
    (iblk1 V c 3 t : Vec Ideal S2048x512 .bf16) (ix2 l k) = V c main_arg6 (ix2 l (col (t.val % 11) k)) := by
  have hi := (index1 t).2.2.2.1
  unfold iblk1
  rw [View.read_apply]
  show V c main_arg6 _ = _
  congr 1
  funext a
  apply Fin.ext
  match a with
  | ⟨0, _⟩ => show win1_3.index t 0 * 2048 + 1 * l.val = l.val; rw [hi.1]; omega
  | ⟨1, _⟩ => show win1_3.index t 1 * 512 + 1 * k.val = (512 * (t.val % 11) + k.val) % 5632; rw [hi.2]; omega

/-- The down weight's row block. -/
theorem blk1_4 (t : Fin cfg1.N) (k : Fin 512) (n : Fin 2048) :
    (iblk1 V c 4 t : Vec Ideal S512x2048 .bf16) (ix2 k n) = V c main_arg7 (ix2 (col (t.val % 11) k) n) := by
  have hi := (index1 t).2.2.2.2.1
  unfold iblk1
  rw [View.read_apply]
  show V c main_arg7 _ = _
  congr 1
  funext a
  apply Fin.ext
  match a with
  | ⟨0, _⟩ => show win1_4.index t 0 * 512 + 1 * k.val = (512 * (t.val % 11) + k.val) % 5632; rw [hi.1]; omega
  | ⟨1, _⟩ => show win1_4.index t 1 * 2048 + 1 * n.val = n.val; rw [hi.2]; omega

/-- The last norm's weights, whole at every point. -/
theorem blk1_5 (t : Fin cfg1.N) (n : Fin 2048) :
    (iblk1 V c 5 t : Vec Ideal S1x2048 .f32) (ix2 0 n) = V c main_v2 (ix2 0 n) := by
  have hi := (index1 t).2.2.2.2.2.1
  unfold iblk1
  rw [View.read_apply]
  show V c main_v2 _ = _
  congr 1
  funext a
  apply Fin.ext
  match a with
  | ⟨0, _⟩ => show win1_5.index t 0 * 1 + 1 * 0 = 0; rw [hi.1]
  | ⟨1, _⟩ => show win1_5.index t 1 * 2048 + 1 * n.val = n.val; rw [hi.2]; omega

/-- The normalised rows and the residual, as the region finds them. -/
abbrev nrm1 (T : Fin 16384) (l : Fin 2048) : EReal := V c main_v1_1 (ix2 T l)
abbrev hid1 (T : Fin 16384) (n : Fin 2048) : EReal := V c main_v1_0 (ix2 T n)

/-- One hidden column's contribution to the result. -/
def term (T : Fin 16384) (n : Fin 2048) (q : Fin 5632) : EReal :=
  Ffn.act (V c main_arg5) (V c main_arg6) (nrm1 V c) T q * V c main_arg7 (ix2 q n)

/-- The accumulator after column blocks `0 … f`: their contributions, and the residual once its rows' turn has come. -/
def acc (T : Fin 16384) (r : Fin 1024) (n : Fin 2048) (f : ℕ) : EReal :=
  (∑ j ∈ Finset.range (f + 1), ∑ k : Fin 512, term V c T n (col j k)) + if r.val / 128 ≤ f then hid1 V c T n else 0

/-- A point's body over an accumulator `a`: its column block's contribution, and the residual where it is the rows' turn. -/
theorem step1 (t : Fin cfg1.N) (a : Vec Ideal S1024x2048 .f32) (r : Fin 1024) (n : Fin 2048) :
    step (BitVec.ofNat 32 (grid1.coords t 1).val) (k1_off1 (grid1.coords t)) (k1_off1_inb _)
        (k1_pay4 (F := Ideal) (iblk1 V c 0 t) (iblk1 V c 2 t) (iblk1 V c 3 t) a (iblk1 V c 4 t)) (iblk1 V c 1 t) (ix2 r n)
      = a (ix2 r n) + (∑ k : Fin 512, term V c (row1 t r) n (col (t.val % 11) k))
        + if r.val / 128 = t.val % 11 then hid1 V c (row1 t r) n else 0 := by
  have hc := coord1 t
  rw [hc.1, step_apply (t.val % 11) (min (t.val % 11) 7) (by omega) _ (funext fun a => match a with
    | ⟨0, _⟩ => hc.2.1
    | ⟨1, _⟩ => hc.2.2), pay4_apply]
  simp only [blk1_0, blk1_2, blk1_3, blk1_4]
  refine congrArg₂ (· + ·) rfl ?_
  by_cases hr : r.val / 128 = min (t.val % 11) 7
  · rw [if_pos hr, blk1_1 V c t r hr]
    by_cases h8 : t.val % 11 < 8
    · rw [if_pos h8, mul_one, if_pos (by omega)]
    · rw [if_neg h8, mul_zero, if_neg (by omega)]
  · rw [if_neg hr, if_neg (by omega)]

/-- The accumulator after the first column block. -/
theorem acc_zero (T : Fin 16384) (r : Fin 1024) (n : Fin 2048) :
    acc V c T r n 0 = 0 + (∑ k : Fin 512, term V c T n (col 0 k)) + if r.val / 128 = 0 then hid1 V c T n else 0 := by
  simp [acc]

/-- The accumulator after one column block more. -/
theorem acc_succ (T : Fin 16384) (r : Fin 1024) (n : Fin 2048) (f : ℕ) :
    acc V c T r n (f + 1) = acc V c T r n f + (∑ k : Fin 512, term V c T n (col (f + 1) k))
      + if r.val / 128 = f + 1 then hid1 V c T n else 0 := by
  unfold acc
  rw [Finset.sum_range_succ]
  have e : (if r.val / 128 ≤ f + 1 then hid1 V c T n else 0)
      = (if r.val / 128 ≤ f then hid1 V c T n else 0) + if r.val / 128 = f + 1 then hid1 V c T n else 0 := by
    rcases Nat.lt_trichotomy (r.val / 128) (f + 1) with h | h | h
    · rw [if_pos (by omega), if_pos (by omega), if_neg (by omega), add_zero]
    · rw [if_pos (by omega), if_neg (by omega), if_pos h, zero_add]
    · rw [if_neg (by omega), if_neg (by omega), if_neg (by omega), add_zero]
  rw [e]
  ac_rfl

/-- Before a row block's last point the staging buffer holds the accumulator. -/
theorem outs_acc : ∀ (s : ℕ) (hs : s < cfg1.N), s % 11 < 10 → ∀ (r : Fin 1024) (n : Fin 2048),
    outsAt1 V c s hs (ix2 r n) = acc V c (row1 ⟨s, hs⟩ r) r n (s % 11)
  | 0, hs, _, r, n => by
    refine (congrFun (fold_A V c ⟨0, hs⟩ rfl (by show ¬0 % 11 = 10; decide)) _).trans ?_
    rw [step1, pay3_apply]
    exact (acc_zero V c _ r n).symm
  | s + 1, hs, h10, r, n => by
    by_cases h0 : (s + 1) % 11 = 0
    · refine (congrFun (fold_A V c ⟨s + 1, hs⟩ h0 (by dsimp only; omega)) _).trans ?_
      rw [step1, pay3_apply]
      dsimp only
      rw [h0]
      exact (acc_zero V c _ r n).symm
    · refine (congrFun (fold_B V c ⟨s + 1, hs⟩ h0 (by dsimp only; omega)) _).trans ?_
      rw [step1]
      dsimp only
      have e : (s + 1) % 11 = s % 11 + 1 := by omega
      rw [e, acc_succ]
      have ih := outs_acc s (Nat.lt_of_succ_lt hs) (by omega) r n
      have er : row1 ⟨s, Nat.lt_of_succ_lt hs⟩ r = row1 ⟨s + 1, hs⟩ r :=
        Fin.ext (by show 1024 * (s / 11) + r.val = 1024 * ((s + 1) / 11) + r.val; omega)
      rw [er] at ih
      rw [← ih]
      rfl

/-- All eleven blocks' contributions and the residual. -/
theorem acc_last (T : Fin 16384) (r : Fin 1024) (n : Fin 2048) :
    acc V c T r n 10 = hid1 V c T n + ∑ q : Fin 5632, term V c T n q := by
  unfold acc
  rw [if_pos (by omega), add_comm]
  refine congrArg _ ?_
  refine (Finset.sum_range (n := 11) fun j => ∑ k : Fin 512, term V c T n (col j k)).trans ?_
  refine Eq.trans ?_ (Fin.sum_univ_tiles 11 512 (N := 5632) rfl fun q => term V c T n q).symm
  refine Finset.sum_congr rfl fun j _ => Finset.sum_congr rfl fun k _ => congrArg _ (Fin.ext ?_)
  show (512 * j.val + k.val) % 5632 = j.val * 512 + k.val
  omega

/-- What a row block's last point leaves: the normalised second residual. -/
theorem outs_last (t : Fin cfg1.N) (h : t.val % 11 = 10) (r : Fin 1024) (n : Fin 2048) :
    outsAt1 V c t.val t.isLt (ix2 r n)
      = Ffn.rms (fun j => hid1 V c (row1 t r) j + ∑ q : Fin 5632, term V c (row1 t r) j q) (fun k => V c main_v2 (ix2 0 k)) n := by
  have hN : t.val < 176 := lt_of_lt_of_eq t.isLt N_1
  obtain ⟨s, hs⟩ : ∃ s, t.val = s + 1 := ⟨t.val - 1, by omega⟩
  rw [fold_C V c t (by omega) h, pay2_apply]
  refine congrArg₂ (fun f w => Ffn.rms f w n) (funext fun j => ?_) (funext fun k => blk1_5 V c t k)
  rw [step1, h, outs_acc V c (t.val - 1) _ (by omega)]
  have er : row1 ⟨t.val - 1, Nat.lt_of_le_of_lt (Nat.sub_le _ _) t.isLt⟩ r = row1 t r :=
    Fin.ext (by show 1024 * ((t.val - 1) / 11) + r.val = 1024 * (t.val / 11) + r.val; omega)
  rw [er, ← acc_last V c (row1 t r) r j, show (t.val - 1) % 11 = 9 by omega]
  exact (acc_succ V c _ r j 9).symm

/-- The result array. -/
def arr_out : Buf (Elt Ideal) ((c : Thread nD τ).loc main_v3) := fun i =>
  Ffn.rms (fun j => hid1 V c (i 0) j + ∑ q : Fin 5632, term V c (i 0) j q) (fun k => V c main_v2 (ix2 0 k)) (i 1)

/-- The block a row block's last point writes back is that block of the result array. -/
theorem flushed_out (t : Fin cfg1.N) (h : (cfg1.win 6).flush t = true) :
    (dat1 V c).flushed 6 t = (win1_6.blk t).view.read (Elt Ideal) (arr_out V c) := by
  have hi := (index1 t).2.2.2.2.2.2
  have h10 := (flush1_6 t).mp h
  show (cfg1.win 6).cut (grid1.coords t) ((dat1 V c).after 6 t) = _
  rw [after1_6]
  funext j
  rw [View.read_apply]
  refine (congrArg (outsAt1 V c t.val t.isLt) (eq_ix2 (n0 := 1024) (n1 := 2048) j)).trans ((outs_last V c t h10 (j 0) (j 1)).trans ?_)
  refine congrArg₂ (fun T n => Ffn.rms (fun j => hid1 V c T j + ∑ q : Fin 5632, term V c T j q) (fun k => V c main_v2 (ix2 0 k)) n)
    (Fin.ext ?_) (Fin.ext ?_)
  · show 1024 * (t.val / 11) + (j 0).val = win1_6.index t 0 * 1024 + 1 * (j 0).val; rw [hi.1]; omega
  · show (j 1).val = win1_6.index t 1 * 2048 + 1 * (j 1).val; rw [hi.2]; omega

/-- Every row of the result lies in the block its row block's last point writes back. -/
theorem cover_out (i : S16384x2048.Idx) :
    ∃ t : Fin cfg1.N, (cfg1.win 6).flush t = true ∧ i ∈ ((cfg1.win 6).blk t).view.set := by
  have h0 : (i 0).val < 16384 := (i 0).isLt
  have h1 : (i 1).val < 2048 := (i 1).isLt
  have hN : cfg1.N = 176 := N_1
  obtain ⟨t, ht⟩ : ∃ t : Fin cfg1.N, t.val = 11 * ((i 0).val / 1024) + 10 := ⟨⟨_, by omega⟩, rfl⟩
  refine ⟨t, (flush1_6 t).mpr (by omega), ?_⟩
  have hi := (index1 t).2.2.2.2.2.2
  show i ∈ ((View.whole main_v3).slice (win1_6.rect t)).set
  rw [View.set_slice_whole, Rect.mem_set_unit]
  intro a
  match a with
  | ⟨0, _⟩ => show win1_6.index t 0 * 1024 ≤ (i 0).val ∧ (i 0).val < win1_6.index t 0 * 1024 + 1024; rw [hi.1]; omega
  | ⟨1, _⟩ => show win1_6.index t 1 * 2048 ≤ (i 1).val ∧ (i 1).val < win1_6.index t 1 * 2048 + 2048; rw [hi.2]; omega

/-- So the region leaves the result. -/
theorem final_out : (dat1 V c).arrAt 6 cfg1.N = arr_out V c :=
  (dat1 V c).arrAt_eq_of_cover 6 (arr_out V c) (flushed_out V c) cover_out

end Cert.Kernel2Ideal.Hand
-- ==== Proof.FfnRef.lean ====
/-
  The plain reference of the output projection and the feed-forward, read at an index: it is the closed form `Ffn.out`.
-/
module

public import proofs.«01_k».proof.Proof.FfnSpec
public import proofs.«01_k».proof.Proof.Gen.Reference2Ideal.Run

@[expose] public section

noncomputable section

namespace Cert.Reference2Ideal.Hand

open Cert.Reference2Ideal Cert.Reference2Ideal.Gen Idealize.ShloMosaic Idealize.ShloMosaic.TcCoe Idealize.SL.Sem

variable (m : (ℓ : Loc nD τ sig) → Buf (Elt Ideal) ℓ) (c : Dev nD)

set_option maxRecDepth 8192 in
/-- The reference's result at an index is the closed form of its arguments. -/
theorem res_eq (t : Fin 16384) (n : Fin 2048) :
    Value.res_out0 (F := Ideal) m c (ix2 t n)
      = Ffn.out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) t n := by
  unfold Value.res_out0 Value.res_main_v44
  generalize hH : addf (F := Ideal) (s := S16384x2048) (φ := .f32) (m ((c : Thread nD τ).loc main_arg2)) _ = H
  have hh : ∀ k, H (ix2 t k) = Ffn.hid (m ((c : Thread nD τ).loc main_arg0)) (m ((c : Thread nD τ).loc main_arg1))
      (m ((c : Thread nD τ).loc main_arg2)) (m ((c : Thread nD τ).loc main_arg3)) t k := fun k => by
    subst hH; pointwise; rfl
  clear hH
  pointwise
  simp only [hh, Ffn.out, Ffn.rms, Ffn.res, Ffn.act, Ffn.swiglu, Ffn.nrm]

end Cert.Reference2Ideal.Hand
-- ==== Proof.FfnRun.lean ====
/-
  The second pair's run: the buffers' contents followed through the two regions, the result at the closed form `Ffn.out`
  of the launch's arguments, and the algebraic claim of `Kernel2Ideal` against `Reference2Ideal`.
-/
module

public import proofs.«01_k».proof.Defs
public import proofs.«01_k».proof.Proof.FfnMid
public import proofs.«01_k».proof.Proof.FfnDown
public import proofs.«01_k».proof.Proof.FfnRef
public import Idealize.ShloMosaic.Lib.Pipeline.FrameBody
public import Idealize.ShloMosaic.Lib.Pipeline.RegionsLoop
public import Idealize.ShloMosaic.Lib.Pipeline.FrameSuffix
public import Idealize.ShloMosaic.Lib.Tactic

@[expose] public section

noncomputable section

namespace Cert.Kernel2Ideal.Hand

open Cert.Kernel2Ideal Cert.Kernel2Ideal.Gen
open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (m : (ℓ : Loc nD τ sig) → Buf (Elt Ideal) ℓ) (ρ : Dev nD → PrngReg)

/-- The first region is entered with each argument as launched. -/
theorem V1_arg (c : Dev nD) (a : Ref sig .tc) (ha : a ∈ argRefs) : V1 m ρ c a = m ((c : Thread nD τ).loc a) :=
  W1_args m ρ c a ha

/-- So is the second. -/
theorem V3_arg (c : Dev nD) (a : Ref sig .tc) (ha : a ∈ argRefs) : V3 m ρ c a = m ((c : Thread nD τ).loc a) :=
  W3_args m ρ c a ha

/-- The first norm's weights, as the row the host's reshape makes of them. -/
theorem V1_row (c : Dev nD) (k : Fin 2048) : V1 m ρ c main_v0 (ix2 0 k) = m ((c : Thread nD τ).loc main_arg4) (ix1 k) := by
  have h : V1 m ρ c main_v0 = shapeCast (s := S2048) S1x2048 (m ((c : Thread nD τ).loc main_arg4)) shapeCasts_S2048_S1x2048 := rfl
  rw [h]
  pointwise

/-- The last norm's, likewise. -/
theorem V3_row (c : Dev nD) (k : Fin 2048) : V3 m ρ c main_v2 (ix2 0 k) = m ((c : Thread nD τ).loc main_arg8) (ix1 k) := by
  have h : V3 m ρ c main_v2 = shapeCast (s := S2048) S1x2048 (W2 m ρ c (Proc.devRef .tc main_arg8)) shapeCasts_S2048_S1x2048 := rfl
  rw [h, W2_args m ρ c main_arg8 (by decide)]
  pointwise

/-- The second region is entered with the first's residual array. -/
theorem V3_hid (c : Dev nD) : V3 m ρ c main_v1_0 = arr5 (V1 m ρ) c :=
  (W3_of m ρ c main_v1_0 (by decide)).trans ((W2_arr m ρ c 5).trans (final5 (V1 m ρ) c))

/-- And with the first's normalised rows. -/
theorem V3_nrm (c : Dev nD) : V3 m ρ c main_v1_1 = arr6 (V1 m ρ) c :=
  (W3_of m ρ c main_v1_1 (by decide)).trans ((W2_arr m ρ c 6).trans (final6 (V1 m ρ) c))

/-- What the second region leaves, read at an index, is the closed form of the launch's arguments. -/
theorem out_eq (c : Dev nD) (t : Fin 16384) (n : Fin 2048) :
    W4 m ρ c (Proc.devRef .tc main_v3) (ix2 t n)
      = Ffn.out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) t n := by
  have hh : hid0 (V1 m ρ) c = Ffn.hid (m ((c : Thread nD τ).loc main_arg0)) (m ((c : Thread nD τ).loc main_arg1))
      (m ((c : Thread nD τ).loc main_arg2)) (m ((c : Thread nD τ).loc main_arg3)) := by
    unfold hid0
    rw [V1_arg m ρ c main_arg0 (by decide), V1_arg m ρ c main_arg1 (by decide), V1_arg m ρ c main_arg2 (by decide),
      V1_arg m ρ c main_arg3 (by decide)]
  have h1 : hid1 (V3 m ρ) c = hid0 (V1 m ρ) c := by
    funext T N; unfold hid1; rw [V3_hid]; rfl
  have h2 : nrm1 (V3 m ρ) c = Ffn.nrm (m ((c : Thread nD τ).loc main_arg0)) (m ((c : Thread nD τ).loc main_arg1))
      (m ((c : Thread nD τ).loc main_arg2)) (m ((c : Thread nD τ).loc main_arg3)) (m ((c : Thread nD τ).loc main_arg4)) := by
    funext T N; unfold nrm1; rw [V3_nrm]
    show Ffn.rms (hid0 (V1 m ρ) c T) (fun k => V1 m ρ c main_v0 (ix2 0 k)) N = _
    rw [hh]
    unfold Ffn.nrm
    exact congrArg (fun f => Ffn.rms _ f N) (funext fun k => V1_row m ρ c k)
  rw [show W4 m ρ c (Proc.devRef .tc main_v3) = arr_out (V3 m ρ) c from (W4_arr m ρ c 6).trans (final_out (V3 m ρ) c)]
  show Ffn.rms (fun j => hid1 (V3 m ρ) c t j + ∑ q, term (V3 m ρ) c t j q) (fun k => V3 m ρ c main_v2 (ix2 0 k)) n = _
  unfold term
  rw [h1, hh, h2, V3_arg m ρ c main_arg5 (by decide), V3_arg m ρ c main_arg6 (by decide), V3_arg m ρ c main_arg7 (by decide)]
  exact congrArg (fun f => Ffn.rms _ f n) (funext fun k => V3_row m ρ c k)

set_option backward.isDefEq.respectTransparency.types false in
/-- Every execution ends with the result at what the second region leaves and the arguments as launched. -/
theorem run : θ_run defs (onTc (τ := τ) (main (F := Ideal))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => fun c =>
      ⟨h c _ (mem_uc main_v3 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.Kernel2Ideal.Hand

namespace Cert.Proof

open Idealize.ShloMosaic Idealize.ShloMosaic.TcCoe Idealize.SL.Sem

/-- The second pair's algebraic claim: both programs end at the closed form of the same arguments. -/
theorem ffn_algebraic : algebraic_Kernel2Ideal_Reference2Ideal (hKernel2Ideal := Cert.Kernel2Ideal.Gen.facts)
    (hReference2Ideal := Cert.Reference2Ideal.Gen.facts) := by
  intro m g m' g' _ hargs
  refine ⟨fun c => Cert.Kernel2Ideal.Gen.W4 m g c (Proc.devRef .tc Cert.Kernel2Ideal.main_v3), Cert.Kernel2Ideal.Hand.run m g, ?_⟩
  refine (θ_run _ _ _).mono (fun r h c => ⟨(h c).1.trans ?_, (h c).2⟩) (Cert.Reference2Ideal.Value.run (F := Ideal) m' g')
  obtain ⟨h0, h1, h2, h3, h4, h5, h6, h7, h8⟩ := hargs c
  funext j
  refine (congrArg (Cert.Reference2Ideal.Value.res_out0 (F := Ideal) m' c) (eq_ix2 (n0 := 16384) (n1 := 2048) j)).trans ?_
  refine (Cert.Reference2Ideal.Hand.res_eq m' c (j 0) (j 1)).trans ?_
  refine Eq.trans ?_ ((Cert.Kernel2Ideal.Hand.out_eq m g c (j 0) (j 1)).symm.trans
    (congrArg (Cert.Kernel2Ideal.Gen.W4 m g c (Proc.devRef .tc Cert.Kernel2Ideal.main_v3)) (eq_ix2 (n0 := 16384) (n1 := 2048) j).symm))
  rw [h0, h1, h2, h3, h4, h5, h6, h7, h8]

end Cert.Proof
-- ==== Proof.RetKern.lean ====
module
public import proofs.«01_k».proof.Proof.Gen.KernelIdeal.Frame.RunB
public import proofs.«01_k».proof.Proof.Gen.KernelIdeal.Frame.RunA
public import Idealize.ShloMosaic.Lib.Pointwise
@[expose] public section
set_option maxHeartbeats 4000000
set_option maxRecDepth 16384
namespace Cert.Proof.Ret
open Idealize.ShloMosaic Cert.KernelIdeal Cert.KernelIdeal.Gen
noncomputable section
variable {F : FTy → Type} [FloatOps F]

/-- The list that holds entry `n − 1` of a family first and entry `0` last. -/
def down {α : Type} (p : Fin 16 → α) : (n : ℕ) → n ≤ 16 → List α
  | 0, _ => []
  | n + 1, h => p ⟨n, h⟩ :: down p n (Nat.le_of_succ_le h)

/-- The list that holds entry `16 − n` of a family first and entry `15` last. -/
def up {α : Type} (p : Fin 16 → α) : (n : ℕ) → n ≤ 16 → List α
  | 0, _ => []
  | n + 1, h => p ⟨15 - n, by omega⟩ :: up p n (Nat.le_of_succ_le h)

theorem inbO (c : Fin 16) : ∀ a, (![0, 0, 256 * c.val, 0] : Fin 4 → ℕ) a + S1x1x256x128.size a ≤ S1x1x4096x128.size a := by
  revert c; decide
theorem inbI (c : Fin 16) : ∀ a, (![0, 0, 0, 256 * c.val, 0] : Fin 5 → ℕ) a + S1x1x1x256x128.size a ≤ S1x1x1x4096x128.size a := by
  revert c; decide
theorem inbS (c : Fin 16) : ∀ a, (![c.val, 0, 0] : Fin 3 → ℕ) a + S1x128x256.size a ≤ S16x128x256.size a := by
  revert c; decide
theorem inbF (c : Fin 16) : ∀ a, (![c.val, 0, 0] : Fin 3 → ℕ) a + S1x128x128.size a ≤ S16x128x256.size a := by
  revert c; decide
theorem inbB (c : Fin 16) : ∀ a, (![c.val, 0, 128] : Fin 3 → ℕ) a + S1x128x128.size a ≤ S16x128x256.size a := by
  revert c; decide
theorem inbT (t : Fin 4) : ∀ a, (![t.val, 0, 0] : Fin 3 → ℕ) a + S1x256x128.size a ≤ S4x256x128.size a := by
  revert t; decide

/-- Piece `c` of the buffer of key-value products. -/
def kvPiece (K V : Fin 16 → Vec F S1x1x1x256x128 .bf16) (tF tB : Vec F S1x256x128 .f32) (c : Fin 16) : View.Piece (Elt F) S16x128x256 .f32 :=
  ⟨Rect.unit ![c.val, 0, 0] S1x128x256.size (inbS c), k0_pay20 (V c) tF tB (K c)⟩

/-- The forward state before chunk `n`. -/
def stF (v23 : FVec F S1x128 .f32) (kvF : Fin 16 → Vec F S1x128x128 .f32) : (n : ℕ) → n ≤ 16 → FVec F S128x128 .f32
  | 0, _ => k0_pay41 (Scalar.ofBits .f32 0x00000000#32)
  | n + 1, h => addf (mulf (stF v23 kvF n (Nat.le_of_succ_le h)) (broadcastTo S128x128 v23 broadcasts_S1x128_S128x128)) (shapeCast S128x128 (kvF ⟨n, h⟩) shapeCasts_S1x128x128_S128x128)

/-- The backward state after `n` chunks from the end. -/
def stB (v26 : FVec F S1x128 .f32) (kvB : Fin 16 → Vec F S1x128x128 .f32) : (n : ℕ) → n ≤ 16 → FVec F S128x128 .f32
  | 0, _ => k0_pay41 (Scalar.ofBits .f32 0x00000000#32)
  | n + 1, h => addf (mulf (stB v26 kvB n (Nat.le_of_succ_le h)) (broadcastTo S128x128 v26 broadcasts_S1x128_S128x128)) (shapeCast S128x128 (kvB ⟨15 - n, by omega⟩) shapeCasts_S1x128x128_S128x128)

/-- Piece `c` of the forward half of the buffer of states. -/
def stPieceF (v23 : FVec F S1x128 .f32) (kvF : Fin 16 → Vec F S1x128x128 .f32) (c : Fin 16) : View.Piece (Elt F) S16x128x256 .bf16 :=
  ⟨Rect.unit ![c.val, 0, 0] S1x128x128.size (inbF c), shapeCast S1x128x128 (truncf .bf16 (stF v23 kvF c.val c.isLt.le) bitsLt_bf16_f32) shapeCasts_S128x128_S1x128x128⟩

/-- Piece `c` of the backward half of the buffer of states. -/
def stPieceB (v26 : FVec F S1x128 .f32) (kvB : Fin 16 → Vec F S1x128x128 .f32) (c : Fin 16) : View.Piece (Elt F) S16x128x256 .bf16 :=
  ⟨Rect.unit ![c.val, 0, 128] S1x128x128.size (inbB c), shapeCast S1x128x128 (truncf .bf16 (stB v26 kvB (15 - c.val) (by omega)) bitsLt_bf16_f32) shapeCasts_S128x128_S1x128x128⟩

/-- One chunk of the retention's output. -/
def outC (q k v g : Vec F S1x1x1x256x128 .bf16) (st : Vec F S1x128x256 .bf16) (intra : Vec F S256x256 .f32) (qf qb : Vec F S1x256x128 .f32) (rw : Vec F S1x1x128 .f32) : FVec F S1x1x256x128 .bf16 :=
  k0_pay108 (k0_pay107 (k0_pay105 q) (k0_pay106 q k) intra v st qf qb rw) g

/-- Piece `c` of the output. -/
def outPiece (Q K V G : Fin 16 → Vec F S1x1x1x256x128 .bf16) (st : Fin 16 → Vec F S1x128x256 .bf16) (intra : Vec F S256x256 .f32) (qf qb : Vec F S1x256x128 .f32) (rw : Vec F S1x1x128 .f32) (c : Fin 16) : View.Piece (Elt F) S1x1x4096x128 .bf16 :=
  ⟨Rect.unit ![0, 0, 256 * c.val, 0] S1x1x256x128.size (inbO c), outC (Q c) (K c) (V c) (G c) (st c) intra qf qb rw⟩

variable (c : Dev nD) (i : grid0.Coords) (arg2 : Memref sig .tc .smem S8 .f32) (harg2 : arg2.IsWhole) (arg3 : Memref sig .tc .smem S8 .f32) (harg3 : arg3.IsWhole) (arg4 : Memref sig .tc .vmem S1x1x1x4096x128 .bf16) (harg4 : arg4.IsWhole) (arg5 : Memref sig .tc .vmem S1x1x1x4096x128 .bf16) (harg5 : arg5.IsWhole) (arg6 : Memref sig .tc .vmem S1x1x1x4096x128 .bf16) (harg6 : arg6.IsWhole) (arg7 : Memref sig .tc .vmem S1x1x1x4096x128 .bf16) (harg7 : arg7.IsWhole) (arg8 : Memref sig .tc .vmem S1x1x128 .f32) (harg8 : arg8.IsWhole) (arg9 : Memref sig .tc .vmem S64x2048 .f32) (harg9 : arg9.IsWhole) (arg10 : Memref sig .tc .vmem S176x2048 .f32) (harg10 : arg10.IsWhole) (arg11 : Memref sig .tc .vmem S1x1x4096x128 .bf16) (harg11 : arg11.IsWhole) (arg12 : Memref sig .tc .vmem S64x2048 .bf16) (harg12 : arg12.IsWhole) (arg13 : Memref sig .tc .vmem S176x2048 .bf16) (harg13 : arg13.IsWhole) (arg14 : Memref sig .tc .vmem S256x256 .f32) (harg14 : arg14.IsWhole) (arg15 : Memref sig .tc .vmem S4x256x128 .f32) (harg15 : arg15.IsWhole) (arg16 : Memref sig .tc .vmem S16x128x256 .f32) (harg16 : arg16.IsWhole) (arg17 : Memref sig .tc .vmem S16x128x256 .bf16) (harg17 : arg17.IsWhole)
    (x0 : Vec F S8 .f32) (x1 : Vec F S8 .f32) (x2 : Vec F S1x1x1x4096x128 .bf16) (x3 : Vec F S1x1x1x4096x128 .bf16) (x4 : Vec F S1x1x1x4096x128 .bf16) (x5 : Vec F S1x1x1x4096x128 .bf16) (x6 : Vec F S1x1x128 .f32) (x7 : Vec F S64x2048 .f32) (x8 : Vec F S176x2048 .f32) (xs0 : Vec F S256x256 .f32) (xs1 : Vec F S4x256x128 .f32)

/-- The rows of chunk `ch` of an input. -/
def rdI (a : Memref sig .tc .vmem S1x1x1x4096x128 .bf16) (ha : a.IsWhole) (x : Vec F S1x1x1x4096x128 .bf16) (ch : Fin 16) : Vec F S1x1x1x256x128 .bf16 :=
  View.readAt (Elt F) a.view (Rect.unit (s := S1x1x1x4096x128) ![0, 0, 0, 256 * ch.val, 0] S1x1x1x256x128.size (inbI ch)).toLoadRect (ha.unread x)

/-- Table `t` read of the tables' scratch. -/
def rdT (a : Memref sig .tc .vmem S4x256x128 .f32) (ha : a.IsWhole) (x : Vec F S4x256x128 .f32) (t : Fin 4) : Vec F S1x256x128 .f32 :=
  View.readAt (Elt F) a.view (Rect.unit (s := S4x256x128) ![t.val, 0, 0] S1x256x128.size (inbT t)).toLoadRect (ha.unread x)

/-- The scalar a kernel reads of a vector of decays. -/
def rdL (i : grid0.Coords) (a : Memref sig .tc .smem S8 .f32) (ha : a.IsWhole) (x : Vec F S8 .f32) : Elt F .f32 :=
  View.readAt (Elt F) a.view (Rect.unit (s := S8) (k0_off1 i) S1.size (k0_off1_inb i)).toLoadRect (ha.unread x) (Shape.Idx.first (numel1_S1.symm ▸ Nat.one_pos))

/-- The piece that fills the table within a chunk. -/
def intraL (l l' : Elt F .f32) : List (View.Piece (Elt F) S256x256 .f32) :=
  [⟨Rect.unit (s := S256x256) ![0, 0] S256x256.size inb_S256x256_S256x256_0_0, k0_pay2 (k0_pay9 l) (k0_pay10 l')⟩]

/-- The pieces that fill the four tables, last first. -/
def tabL (l l' : Elt F .f32) : List (View.Piece (Elt F) S4x256x128 .f32) :=
  [⟨Rect.unit (s := S4x256x128) ![3, 0, 0] S1x256x128.size inb_S4x256x128_S1x256x128_3_0_0, k0_pay13 l' k0_pay3⟩,
   ⟨Rect.unit (s := S4x256x128) ![2, 0, 0] S1x256x128.size inb_S4x256x128_S1x256x128_2_0_0, k0_pay12 l k0_pay3⟩,
   ⟨Rect.unit (s := S4x256x128) ![1, 0, 0] S1x256x128.size inb_S4x256x128_S1x256x128_1_0_0, k0_pay11 (k0_pay5 (k0_pay10 l')) k0_pay6⟩,
   ⟨Rect.unit (s := S4x256x128) ![0, 0, 0] S1x256x128.size inb_S4x256x128_S1x256x128_0_0_0, k0_pay4 (k0_pay9 l)⟩]

/-- Table `t` read back after the tables are filled. -/
def rdTA (a : Memref sig .tc .vmem S4x256x128 .f32) (l l' : Elt F .f32) (t : Fin 4) : Vec F S1x256x128 .f32 :=
  a.view.readCov (tabL l l') (Rect.unit (s := S4x256x128) ![t.val, 0, 0] S1x256x128.size (inbT t)).toLoadRect

section lists
variable (m16 : Memref sig .tc .vmem S16x128x256 .f32) (m17 : Memref sig .tc .vmem S16x128x256 .bf16)
variable (Q K V G : Fin 16 → Vec F S1x1x1x256x128 .bf16) (l l' : Elt F .f32) (intra : Vec F S256x256 .f32) (t0 t1 t2 t3 : Vec F S1x256x128 .f32) (rw : Vec F S1x1x128 .f32)

/-- The pieces of the key-value products, last first. -/
def kvL : List (View.Piece (Elt F) S16x128x256 .f32) := down (kvPiece K V t2 t3) 16 le_rfl

/-- The forward half of a chunk's key-value product. -/
def kvFr (ch : Fin 16) : Vec F S1x128x128 .f32 := m16.view.readCov (kvL K V t2 t3) (Rect.unit (s := S16x128x256) ![ch.val, 0, 0] S1x128x128.size (inbF ch)).toLoadRect

/-- The backward half of a chunk's key-value product. -/
def kvBr (ch : Fin 16) : Vec F S1x128x128 .f32 := m16.view.readCov (kvL K V t2 t3) (Rect.unit (s := S16x128x256) ![ch.val, 0, 128] S1x128x128.size (inbB ch)).toLoadRect

/-- The pieces of the states, last first. -/
def stL : List (View.Piece (Elt F) S16x128x256 .bf16) :=
  up (stPieceB (k0_pay15 l') (kvBr m16 K V t2 t3)) 16 le_rfl ++ down (stPieceF (k0_pay14 l) (kvFr m16 K V t2 t3)) 16 le_rfl

/-- A chunk's states, read back. -/
def stR (ch : Fin 16) : Vec F S1x128x256 .bf16 := m17.view.readCov (stL m16 K V l l' t2 t3) (Rect.unit (s := S16x128x256) ![ch.val, 0, 0] S1x128x256.size (inbS ch)).toLoadRect

/-- The pieces of the output, last first. -/
def outL : List (View.Piece (Elt F) S1x1x4096x128 .bf16) :=
  down (outPiece Q K V G (stR m16 m17 K V l l' t2 t3) intra t0 t1 rw) 16 le_rfl
end lists

set_option maxHeartbeats 40000000 in
theorem kvB_eq : kernelRun0_B.sl.HS2_16 (F := F) c arg5 harg5 arg6 harg6 arg15 harg15 x3 x4 xs1 =
    kvL (rdI arg5 harg5 x3) (rdI arg6 harg6 x4) (rdT arg15 harg15 xs1 2) (rdT arg15 harg15 xs1 3) := by
  unfold kernelRun0_B.sl.HS2_16
  rfl

theorem lB_eq : kernelRun0_B.sl.r (F := F) c i arg2 harg2 x0 = rdL i arg2 harg2 x0 := rfl

set_option maxHeartbeats 40000000 in
theorem stB_eq : kernelRun0_B.sl.HS3_32 (F := F) c i arg2 harg2 arg3 harg3 arg5 harg5 arg6 harg6 arg15 harg15 arg16 x0 x1 x3 x4 xs1 =
    stL arg16 (rdI arg5 harg5 x3) (rdI arg6 harg6 x4) (rdL i arg2 harg2 x0) (rdL i arg3 harg3 x1) (rdT arg15 harg15 xs1 2) (rdT arg15 harg15 xs1 3) := by
  unfold kernelRun0_B.sl.HS3_32
  rfl

set_option maxHeartbeats 40000000 in
/-- The output pieces of a point that keeps the tables. -/
theorem outB_eq (hc0 : ¬cond0_0 i) : (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs0 xs1).1 =
    outL arg16 arg17 (rdI arg4 harg4 x2) (rdI arg5 harg5 x3) (rdI arg6 harg6 x4) (rdI arg7 harg7 x5) (rdL i arg2 harg2 x0) (rdL i arg3 harg3 x1)
      (View.readAt (Elt F) arg14.view (Rect.unit (s := S256x256) ![0, 0] S256x256.size inb_S256x256_S256x256_0_0).toLoadRect (harg14.unread xs0))
      (rdT arg15 harg15 xs1 0) (rdT arg15 harg15 xs1 1) (rdT arg15 harg15 xs1 2) (rdT arg15 harg15 xs1 3)
      (View.readAt (Elt F) arg8.view (Rect.unit (s := S1x1x128) ![0, 0, 0] S1x1x128.size inb_S1x1x128_S1x1x128_0_0_0).toLoadRect (harg8.unread x6)) := by
  unfold kernelRun0_B
  rfl

set_option maxHeartbeats 40000000 in
/-- The pieces of the tables at a point that fills them. -/
theorem tabA_eq (hc0 : cond0_0 i) : (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8).2.2.2.2.1 = tabL (rdL i arg2 harg2 x0) (rdL i arg3 harg3 x1) := by
  unfold kernelRun0_A
  rfl

set_option maxHeartbeats 40000000 in
/-- The piece of the table within a chunk at a point that fills it. -/
theorem intraA_eq (hc0 : cond0_0 i) : (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8).2.2.2.1 = intraL (rdL i arg2 harg2 x0) (rdL i arg3 harg3 x1) := by
  unfold kernelRun0_A
  rfl

set_option maxHeartbeats 40000000 in
/-- The output pieces of a point that fills the tables. -/
theorem outA_eq (hc0 : cond0_0 i) : (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8).1 =
    outL arg16 arg17 (rdI arg4 harg4 x2) (rdI arg5 harg5 x3) (rdI arg6 harg6 x4) (rdI arg7 harg7 x5) (rdL i arg2 harg2 x0) (rdL i arg3 harg3 x1)
      (arg14.view.readCov (intraL (rdL i arg2 harg2 x0) (rdL i arg3 harg3 x1)) (Rect.unit (s := S256x256) ![0, 0] S256x256.size inb_S256x256_S256x256_0_0).toLoadRect)
      (rdTA arg15 (rdL i arg2 harg2 x0) (rdL i arg3 harg3 x1) 0) (rdTA arg15 (rdL i arg2 harg2 x0) (rdL i arg3 harg3 x1) 1) (rdTA arg15 (rdL i arg2 harg2 x0) (rdL i arg3 harg3 x1) 2) (rdTA arg15 (rdL i arg2 harg2 x0) (rdL i arg3 harg3 x1) 3)
      (View.readAt (Elt F) arg8.view (Rect.unit (s := S1x1x128) ![0, 0, 0] S1x1x128.size inb_S1x1x128_S1x1x128_0_0_0).toLoadRect (harg8.unread x6)) := by
  unfold kernelRun0_A
  rfl

set_option maxHeartbeats 40000000 in
/-- The one piece of a weight copied at a point. -/
theorem downPieceA_eq (hc0 : cond0_0 i) : (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8).2.2.1 = [⟨Rect.unit (s := S176x2048) ![0, 0] S176x2048.size inb_S176x2048_S176x2048_0_0, k0_pay8 (View.readAt (Elt F) arg10.view (Rect.unit (s := S176x2048) ![0, 0] S176x2048.size inb_S176x2048_S176x2048_0_0).toLoadRect (harg10.unread x8))⟩] := by
  unfold kernelRun0_A
  rfl

set_option maxHeartbeats 40000000 in
/-- The one piece of a weight copied at a point. -/
theorem outwPieceA_eq (hc0 : cond0_0 i) : (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8).2.1 = [⟨Rect.unit (s := S64x2048) ![0, 0] S64x2048.size inb_S64x2048_S64x2048_0_0, k0_pay7 (View.readAt (Elt F) arg9.view (Rect.unit (s := S64x2048) ![0, 0] S64x2048.size inb_S64x2048_S64x2048_0_0).toLoadRect (harg9.unread x7))⟩] := by
  unfold kernelRun0_A
  rfl

set_option maxHeartbeats 40000000 in
/-- The one piece of a weight copied at a point. -/
theorem downPieceB_eq (hc0 : ¬cond0_0 i) : (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs0 xs1).2.2.1 = [⟨Rect.unit (s := S176x2048) ![0, 0] S176x2048.size inb_S176x2048_S176x2048_0_0, k0_pay8 (View.readAt (Elt F) arg10.view (Rect.unit (s := S176x2048) ![0, 0] S176x2048.size inb_S176x2048_S176x2048_0_0).toLoadRect (harg10.unread x8))⟩] := by
  unfold kernelRun0_B
  rfl

set_option maxHeartbeats 40000000 in
/-- The one piece of a weight copied at a point. -/
theorem outwPieceB_eq (hc0 : ¬cond0_0 i) : (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 xs0 xs1).2.1 = [⟨Rect.unit (s := S64x2048) ![0, 0] S64x2048.size inb_S64x2048_S64x2048_0_0, k0_pay7 (View.readAt (Elt F) arg9.view (Rect.unit (s := S64x2048) ![0, 0] S64x2048.size inb_S64x2048_S64x2048_0_0).toLoadRect (harg9.unread x7))⟩] := by
  unfold kernelRun0_B
  rfl

end
end Cert.Proof.Ret
-- ==== Proof.RetSpec.lean ====
/-
  The retention over the reals with one infinity, as keys may be infinite. A decaying sum `o_t = Σ_s decay (t - s) (q_t · k_s) v_s` over the positions up to `t`, and the chunked
recurrence that computes it: a state carried from chunk to chunk, and the sum inside the chunk.
-/
module

public import proofs.«01_k».proof.Defs

@[expose] public section

noncomputable section

namespace Cert.Proof.Ret

open Finset Idealize.ShloMosaic

/-- The decay over a distance `t` at the parameter `x`: `exp(-exp(x) t)`. The parameter may be infinite: at `⊤` a distance
    above zero leaves nothing. -/
def decay (x : EReal) (t : ℝ) : ℝ := (Ideal.exp (-Ideal.exp x * t)).toReal

/-- The programs' decay is this real, as no distance is below zero. -/
theorem exp_neg_decay (x : EReal) (t : ℝ) (ht : 0 ≤ t) : Ideal.exp (-Ideal.exp x * t) = (decay x t : EReal) := by
  unfold decay
  induction x using EReal.rec with
  | bot => rw [Ideal.exp_bot, neg_zero, zero_mul, ← EReal.coe_zero, Ideal.exp_coe, EReal.toReal_coe]
  | coe x => rw [Ideal.exp_coe, ← EReal.coe_neg, ← EReal.coe_mul, Ideal.exp_coe, EReal.toReal_coe]
  | top =>
    rw [Ideal.exp_top, EReal.neg_top]
    rcases ht.eq_or_lt with rfl | h
    · rw [EReal.coe_zero, mul_zero, ← EReal.coe_zero, Ideal.exp_coe, EReal.toReal_coe]
    · rw [EReal.bot_mul_coe_of_pos h, Ideal.exp_bot, EReal.toReal_zero, EReal.coe_zero]

/-- The same, of a rate written as a difference. -/
theorem exp_decay (x : EReal) (t : ℝ) (ht : 0 ≤ t) : Ideal.exp ((0 - Ideal.exp x) * t) = (decay x t : EReal) := by
  rw [zero_sub, exp_neg_decay x t ht]

/-- The decay over two distances is the product of theirs. -/
theorem decay_add (x : EReal) (a b : ℝ) (ha : 0 ≤ a) (hb : 0 ≤ b) : decay x (a + b) = decay x a * decay x b := by
  have h1 : (Ideal.exp 0).toReal = 1 := by rw [← EReal.coe_zero, Ideal.exp_coe, EReal.toReal_coe, Real.exp_zero]
  unfold decay
  induction x using EReal.rec with
  | bot => simp only [Ideal.exp_bot, neg_zero, zero_mul, h1, mul_one]
  | coe x =>
    simp only [Ideal.exp_coe, ← EReal.coe_neg, ← EReal.coe_mul, EReal.toReal_coe]
    rw [mul_add, Real.exp_add]
  | top =>
    have hp : ∀ t : ℝ, 0 < t → (Ideal.exp (⊥ * (t : EReal))).toReal = 0 := fun t h => by
      rw [EReal.bot_mul_coe_of_pos h, Ideal.exp_bot, EReal.toReal_zero]
    rw [Ideal.exp_top, EReal.neg_top]
    rcases ha.eq_or_lt with rfl | ha
    · rw [zero_add, EReal.coe_zero, mul_zero, h1, one_mul]
    · rw [hp _ (add_pos_of_pos_of_nonneg ha hb), hp _ ha, zero_mul]

/-- The reals with one infinity: what stays of an extended real when the sign of an infinite one is forgotten. -/
abbrev W : Type := WithTop ℝ

/-- An extended real without the sign of its infinity. -/
def mag (x : EReal) : W := if x = ⊤ ∨ x = ⊥ then ⊤ else (x.toReal : W)

theorem mag_coe (r : ℝ) : mag (r : EReal) = (r : W) := by
  rw [mag, if_neg (by simp), EReal.toReal_coe]

theorem mag_top : mag ⊤ = ⊤ := if_pos (Or.inl rfl)

theorem mag_bot : mag ⊥ = ⊤ := if_pos (Or.inr rfl)

theorem mag_zero : mag 0 = 0 := mag_coe 0

/-- The sign of an infinity does not matter to a sum. -/
theorem mag_add (x y : EReal) : mag (x + y) = mag x + mag y := by
  induction x using EReal.rec <;> induction y using EReal.rec <;>
    simp [mag_coe, mag_top, mag_bot, ← EReal.coe_add]

/-- Nor to a product with a real. -/
theorem mag_coe_mul (r : ℝ) (y : EReal) : mag (r * y) = r * mag y := by
  induction y using EReal.rec with
  | coe y => rw [← EReal.coe_mul, mag_coe, mag_coe, WithTop.coe_mul]
  | top =>
    rcases lt_trichotomy r 0 with h | rfl | h
    · rw [EReal.coe_mul_top_of_neg h, mag_bot, mag_top, WithTop.mul_top (by simpa using h.ne)]
    · rw [EReal.coe_zero, zero_mul, mag_zero, WithTop.coe_zero, zero_mul]
    · rw [EReal.coe_mul_top_of_pos h, mag_top, WithTop.mul_top (by simpa using h.ne')]
  | bot =>
    rcases lt_trichotomy r 0 with h | rfl | h
    · rw [EReal.coe_mul_bot_of_neg h, mag_bot, mag_top, WithTop.mul_top (by simpa using h.ne)]
    · rw [EReal.coe_zero, zero_mul, mag_zero, WithTop.coe_zero, zero_mul]
    · rw [EReal.coe_mul_bot_of_pos h, mag_bot, WithTop.mul_top (by simpa using h.ne')]

theorem mag_mul_coe (y : EReal) (r : ℝ) : mag (y * r) = mag y * r := by
  rw [mul_comm, mag_coe_mul, mul_comm]

theorem mag_sum {ι : Type*} (s : Finset ι) (f : ι → EReal) : mag (∑ i ∈ s, f i) = ∑ i ∈ s, mag (f i) := by
  classical
  induction s using Finset.induction_on with
  | empty => simp [mag_zero]
  | insert a s ha ih => rw [sum_insert ha, sum_insert ha, mag_add, ih]

/-- A real distributes over a sum. -/
theorem coe_mul_add (r : ℝ) (x y : W) : (r : W) * (x + y) = r * x + r * y := by
  rcases eq_or_ne r 0 with rfl | h
  · simp
  have h' : (r : W) ≠ 0 := by simpa using h
  induction x using WithTop.recTopCoe with
  | top => simp only [top_add, WithTop.mul_top h']
  | coe x =>
  induction y using WithTop.recTopCoe with
  | top => simp only [add_top, WithTop.mul_top h']
  | coe y =>
  rw [← WithTop.coe_add, ← WithTop.coe_mul, ← WithTop.coe_mul, ← WithTop.coe_mul, ← WithTop.coe_add, mul_add]

theorem coe_mul_sum {ι : Type*} (s : Finset ι) (r : ℝ) (f : ι → W) : (r : W) * ∑ i ∈ s, f i = ∑ i ∈ s, (r : W) * f i := by
  classical
  induction s using Finset.induction_on with
  | empty => simp
  | insert a s ha ih => rw [sum_insert ha, sum_insert ha, coe_mul_add, ih]

theorem sum_mul_coe {ι : Type*} (s : Finset ι) (f : ι → W) (r : ℝ) : (∑ i ∈ s, f i) * (r : W) = ∑ i ∈ s, f i * (r : W) := by
  rw [mul_comm, coe_mul_sum]
  exact sum_congr rfl fun i _ => mul_comm _ _

theorem add_mul_coe (x y : W) (r : ℝ) : (x + y) * (r : W) = x * r + y * r := by
  rw [mul_comm, coe_mul_add, mul_comm, mul_comm (r : W) y]

/-- The keys without the signs of infinite ones. -/
def km (kr : ℕ → Fin 128 → EReal) (s : ℕ) (d : Fin 128) : W := mag (kr s d)

/-- The state before chunk `n`: each chunk multiplies it by the decay over a chunk and adds the chunk's keys times its
    decayed values. -/
def state (C D : ℕ) (lam : EReal) (k : ℕ → Fin D → W) (v : ℕ → Fin D → ℝ) : ℕ → Fin D → Fin D → W
  | 0, _, _ => 0
  | n + 1, d, e => state C D lam k v n d e * (decay lam C : W)
      + ∑ j : Fin C, k (n * C + j) d * ((v (n * C + j) e * decay lam (C - 1 - (j : ℕ)) : ℝ) : W)

/-- The chunked output at row `i` of chunk `n`: the masked sum inside the chunk and the state's part. -/
def chunkOut (C D : ℕ) (strict : ℕ) (lam : EReal) (q : ℕ → Fin D → ℝ) (k : ℕ → Fin D → W) (v : ℕ → Fin D → ℝ) (n i : ℕ) (e : Fin D) : W :=
  (∑ j : Fin C, (∑ d, (q (n * C + i) d : W) * k (n * C + j) d)
      * ((if (j : ℕ) + strict ≤ i then decay lam ((i : ℝ) - (j : ℕ)) else 0 : ℝ) : W) * (v (n * C + j) e : W))
    + (∑ d, (q (n * C + i) d : W) * state C D lam k v n d e) * (decay lam (i + 1) : W)

/-- The decaying sum at position `t`, over the positions `s` with `s + strict ≤ t`. -/
def fullOut (D : ℕ) (strict : ℕ) (lam : EReal) (q : ℕ → Fin D → ℝ) (k : ℕ → Fin D → W) (v : ℕ → Fin D → ℝ) (t : ℕ) (e : Fin D) : W :=
  ∑ s ∈ range (t + 1), (∑ d, (q t d : W) * k s d)
    * ((if s + strict ≤ t then decay lam ((t : ℝ) - s) else 0 : ℝ) : W) * (v s e : W)

/-- Distances to the last position before `m` are not below zero. -/
theorem left_of (m s : ℕ) (h : s < m) : (0 : ℝ) ≤ (m : ℝ) - 1 - s := by
  have : ((s + 1 : ℕ) : ℝ) ≤ m := Nat.cast_le.2 h
  push_cast at this
  linarith

/-- The state before chunk `n` is the decayed sum over all earlier positions. -/
theorem state_eq (C D : ℕ) (lam : EReal) (k : ℕ → Fin D → W) (v : ℕ → Fin D → ℝ) (n : ℕ) (d e : Fin D) :
    state C D lam k v n d e
      = ∑ s ∈ range (n * C), k s d * ((v s e * decay lam ((n * C : ℕ) - 1 - (s : ℝ)) : ℝ) : W) := by
  induction n with
  | zero => simp [state]
  | succ n ih =>
    rw [state, ih, show (n + 1) * C = n * C + C by ring, sum_range_add, sum_mul_coe, ← Fin.sum_univ_eq_sum_range
      (fun j => k (n * C + j) d * ((v (n * C + j) e * decay lam (((n * C + C : ℕ) : ℝ) - 1 - ((n * C + j : ℕ) : ℝ)) : ℝ) : W))]
    congr 1
    · refine sum_congr rfl fun s hs => ?_
      have : decay lam (((n * C + C : ℕ) : ℝ) - 1 - s)
          = decay lam (((n * C : ℕ) : ℝ) - 1 - s) * decay lam C := by
        rw [← decay_add _ _ _ (left_of _ _ (mem_range.1 hs)) (Nat.cast_nonneg _)]; congr 1; push_cast; ring
      rw [this, mul_assoc, ← WithTop.coe_mul, mul_assoc]
    · refine sum_congr rfl fun j _ => ?_
      congr 4; push_cast; ring

/-- The chunked output is the decaying sum. -/
theorem chunkOut_eq (C D strict : ℕ) (hs : strict ≤ 1) (lam : EReal) (q : ℕ → Fin D → ℝ) (k : ℕ → Fin D → W) (v : ℕ → Fin D → ℝ) (n i : ℕ) (hi : i < C)
    (e : Fin D) :
    chunkOut C D strict lam q k v n i e = fullOut D strict lam q k v (n * C + i) e := by
  have hsplit : ∀ f : ℕ → W, (∀ j, i < j → f (n * C + j) = 0) →
      ∑ s ∈ range (n * C + i + 1), f s = (∑ j : Fin C, f (n * C + j)) + ∑ s ∈ range (n * C), f s := by
    intro f hf
    rw [add_assoc, sum_range_add, add_comm, Fin.sum_univ_eq_sum_range (fun j => f (n * C + j))]
    congr 1
    refine sum_subset (fun a ha => mem_range.2 (by have := mem_range.1 ha; omega)) fun j _ hj => hf j ?_
    have := mem_range.not.1 hj; omega
  unfold chunkOut fullOut
  rw [hsplit _ (fun j hj => by rw [if_neg (by omega), WithTop.coe_zero, mul_zero, zero_mul])]
  congr 1
  · refine sum_congr rfl fun j _ => ?_
    by_cases h : (j : ℕ) + strict ≤ i
    · rw [if_pos h, if_pos (by omega)]; congr 4; push_cast; ring
    · rw [if_neg h, if_neg (by omega)]
  · simp_rw [state_eq, coe_mul_sum]
    rw [sum_comm, sum_mul_coe]
    refine sum_congr rfl fun s hs' => ?_
    have hs'' := mem_range.1 hs'
    rw [if_pos (by omega), sum_mul_coe, sum_mul_coe, sum_mul_coe]
    refine sum_congr rfl fun d _ => ?_
    have : decay lam (((n * C + i : ℕ) : ℝ) - s)
        = decay lam (((n * C : ℕ) : ℝ) - 1 - s) * decay lam (i + 1) := by
      rw [← decay_add _ _ _ (left_of _ _ hs'') (by positivity)]; congr 1; push_cast; ring
    rw [this, WithTop.coe_mul, WithTop.coe_mul]
    ac_rfl

/-- Multiplying the queries by a constant multiplies the decaying sum by it. -/
theorem fullOut_smul (D strict : ℕ) (lam : EReal) (a : ℝ) (q : ℕ → Fin D → ℝ) (k : ℕ → Fin D → W) (v : ℕ → Fin D → ℝ) (t : ℕ) (e : Fin D) :
    fullOut D strict lam (fun t d => q t d * a) k v t e = fullOut D strict lam q k v t e * (a : W) := by
  unfold fullOut
  rw [sum_mul_coe]
  refine sum_congr rfl fun s _ => ?_
  rw [show (∑ d, ((q t d * a : ℝ) : W) * k s d) = (∑ d, (q t d : W) * k s d) * (a : W) by
    rw [sum_mul_coe]; exact sum_congr rfl fun d _ => by rw [WithTop.coe_mul]; ac_rfl]
  ac_rfl

end Cert.Proof.Ret

end
-- ==== Proof.RetPiece.lean ====
/-
  What the retention kernel's buffers hold at an index, over the reals: the tables of decays, the key-value products, the states, and the
output of one head before its normalisation.
-/
module

public import proofs.«01_k».proof.Proof.RetKern
public import proofs.«01_k».proof.Proof.RetSpec

@[expose] public section

set_option maxHeartbeats 2000000

noncomputable section

namespace Cert.Proof.Ret

open Idealize.ShloMosaic Cert.KernelIdeal Cert.KernelIdeal.Gen

section lists
variable {α : Type}

theorem mem_down (p : Fin 16 → α) (q : α) : ∀ (n : ℕ) (h : n ≤ 16), q ∈ down p n h ↔ ∃ c : Fin 16, c.val < n ∧ q = p c
  | 0, _ => by simp [down]
  | n + 1, h => by
    rw [down, List.mem_cons, mem_down p q n]
    constructor
    · rintro (rfl | ⟨c, hc, rfl⟩)
      · exact ⟨⟨n, h⟩, Nat.lt_succ_self n, rfl⟩
      · exact ⟨c, Nat.lt_succ_of_lt hc, rfl⟩
    · rintro ⟨c, hc, rfl⟩
      rcases Nat.lt_succ_iff_lt_or_eq.1 hc with h' | h'
      · exact .inr ⟨c, h', rfl⟩
      · exact .inl (congrArg p (Fin.ext h'))

theorem mem_up (p : Fin 16 → α) (q : α) : ∀ (n : ℕ) (h : n ≤ 16), q ∈ up p n h ↔ ∃ c : Fin 16, 15 - c.val < n ∧ q = p c
  | 0, _ => by simp [up]
  | n + 1, h => by
    rw [up, List.mem_cons, mem_up p q n]
    constructor
    · rintro (rfl | ⟨c, hc, rfl⟩)
      · exact ⟨⟨15 - n, by omega⟩, by show 15 - (15 - n) < n + 1; omega, rfl⟩
      · exact ⟨c, Nat.lt_succ_of_lt hc, rfl⟩
    · rintro ⟨c, hc, rfl⟩
      rcases Nat.lt_succ_iff_lt_or_eq.1 hc with h' | h'
      · exact .inr ⟨c, h', rfl⟩
      · exact .inl (congrArg p (Fin.ext (by show c.val = 15 - n; omega)))
end lists

/-- An index one piece of a list holds, and no other, reads that piece. -/
theorem canon_at {Val : EltTy → Type} [∀ e, Nonempty (Val e)] {s : Shape} {e : EltTy} (p : View.Piece Val s e) (y : s.Idx) (x : p.1.shape.Idx)
    (hx : p.1.emb x = y) : ∀ (L : List (View.Piece Val s e)), p ∈ L → (∀ q ∈ L, y ∈ q.1.set → q = p) → View.canon L y = p.2 x
  | [], h, _ => absurd h List.not_mem_nil
  | q :: L, h, hu => by
    by_cases hy : y ∈ q.1.set
    · obtain rfl := hu q List.mem_cons_self hy
      obtain ⟨r, w⟩ := q
      subst hx
      exact View.canon_cons_emb r w L x
    · rw [View.canon_cons_of_not_mem q L hy]
      refine canon_at p y x hx L ?_ fun q' h' => hu q' (List.mem_cons_of_mem q h')
      rcases List.mem_cons.1 h with rfl | h
      · refine absurd ?_ hy
        rw [← hx, ← Rect.map_emb_univ]
        exact Finset.mem_map_of_mem _ (Finset.mem_univ x)
      · exact h

section values
variable (m16 : Memref sig .tc .vmem S16x128x256 .f32) (m17 : Memref sig .tc .vmem S16x128x256 .bf16)
variable (Q K V G : Fin 16 → Vec Ideal S1x1x1x256x128 .bf16) (l l' : Elt Ideal .f32) (intra : Vec Ideal S256x256 .f32) (t0 t1 t2 t3 : Vec Ideal S1x256x128 .f32) (rw : Vec Ideal S1x1x128 .f32)

theorem kvL_at (ch : Fin 16) (d : Fin 128) (e : Fin 256) :
    View.canon (kvL K V t2 t3) (ix3 ch d e : S16x128x256.Idx) = k0_pay20 (V ch) t2 t3 (K ch) (ix3 (0 : Fin 1) d e) := by
  refine canon_at (kvPiece K V t2 t3 ch) _ (ix3 (0 : Fin 1) d e) ?_ _ ((mem_down _ _ _ _).2 ⟨ch, ch.isLt, rfl⟩) ?_
  · funext a
    apply Fin.ext
    match a with
    | ⟨0, _⟩ => show ch.val + 1 * 0 = ch.val; omega
    | ⟨1, _⟩ => show 0 + 1 * d.val = d.val; omega
    | ⟨2, _⟩ => show 0 + 1 * e.val = e.val; omega
  · intro q hq hy
    obtain ⟨c, _, rfl⟩ := (mem_down _ _ _ _).1 hq
    have h := (Rect.mem_set_unit (inb := inbS c)).1 hy 0
    have : c = ch := Fin.ext (by
      have h1 : c.val ≤ ch.val := h.1
      have h2 : ch.val < c.val + 1 := h.2
      omega)
    rw [this]

theorem kvFr_at (ch : Fin 16) (d e : Fin 128) :
    kvFr m16 K V t2 t3 ch (ix3 (0 : Fin 1) d e) = k0_pay20 (V ch) t2 t3 (K ch) (ix3 (0 : Fin 1) d (⟨e.val, by omega⟩ : Fin 256)) := by
  rw [← kvL_at]
  unfold kvFr
  rw [View.readCov_eq_canon']
  refine congrArg (View.canon (kvL K V t2 t3)) (funext fun a => Fin.ext ?_)
  match a with
  | ⟨0, _⟩ => show ch.val + 1 * 0 = ch.val; omega
  | ⟨1, _⟩ => show 0 + 1 * d.val = d.val; omega
  | ⟨2, _⟩ => show 0 + 1 * e.val = e.val; omega

theorem kvBr_at (ch : Fin 16) (d e : Fin 128) :
    kvBr m16 K V t2 t3 ch (ix3 (0 : Fin 1) d e) = k0_pay20 (V ch) t2 t3 (K ch) (ix3 (0 : Fin 1) d (⟨128 + e.val, by omega⟩ : Fin 256)) := by
  rw [← kvL_at]
  unfold kvBr
  rw [View.readCov_eq_canon']
  refine congrArg (View.canon (kvL K V t2 t3)) (funext fun a => Fin.ext ?_)
  match a with
  | ⟨0, _⟩ => show ch.val + 1 * 0 = ch.val; omega
  | ⟨1, _⟩ => show 0 + 1 * d.val = d.val; omega
  | ⟨2, _⟩ => show 128 + 1 * e.val = 128 + e.val; omega

/-- A chunk's forward state, read back. -/
theorem stR_fwd (ch : Fin 16) (d e : Fin 128) :
    stR m16 m17 K V l l' t2 t3 ch (ix3 (0 : Fin 1) d (⟨e.val, by omega⟩ : Fin 256))
      = stF (k0_pay14 l) (kvFr m16 K V t2 t3) ch.val ch.isLt.le (ix2 d e) := by
  unfold stR
  rw [View.readCov_eq_canon']
  refine (canon_at (stPieceF (k0_pay14 l) (kvFr m16 K V t2 t3) ch) _ (ix3 (0 : Fin 1) d e) ?_ _ (List.mem_append_right _ ((mem_down _ _ _ _).2 ⟨ch, ch.isLt, rfl⟩)) ?_).trans ?_
  · funext a
    apply Fin.ext
    match a with
    | ⟨0, _⟩ => rfl
    | ⟨1, _⟩ => rfl
    | ⟨2, _⟩ => rfl
  · intro q hq hy
    rcases List.mem_append.1 hq with hq | hq
    · obtain ⟨c, _, rfl⟩ := (mem_up _ _ _ _).1 hq
      have h : (128 : ℕ) ≤ 0 + 1 * e.val := ((Rect.mem_set_unit (inb := inbB c)).1 hy 2).1
      omega
    · obtain ⟨c, _, rfl⟩ := (mem_down _ _ _ _).1 hq
      have h := (Rect.mem_set_unit (inb := inbF c)).1 hy 0
      have : c = ch := Fin.ext (by
        have h1 : c.val ≤ ch.val + 1 * 0 := h.1
        have h2 : ch.val + 1 * 0 < c.val + 1 := h.2
        omega)
      rw [this]
  · unfold stPieceF
    generalize stF (k0_pay14 l) (kvFr m16 K V t2 t3) ch.val ch.isLt.le = S
    show shapeCast S1x128x128 _ _ (ix3 (0 : Fin 1) d e) = _
    pointwise

/-- A chunk's backward state, read back. -/
theorem stR_bwd (ch : Fin 16) (d e : Fin 128) :
    stR m16 m17 K V l l' t2 t3 ch (ix3 (0 : Fin 1) d (⟨128 + e.val, by omega⟩ : Fin 256))
      = stB (k0_pay15 l') (kvBr m16 K V t2 t3) (15 - ch.val) (by omega) (ix2 d e) := by
  unfold stR
  rw [View.readCov_eq_canon']
  refine (canon_at (stPieceB (k0_pay15 l') (kvBr m16 K V t2 t3) ch) _ (ix3 (0 : Fin 1) d e) ?_ _ (List.mem_append_left _ ((mem_up _ _ _ _).2 ⟨ch, by omega, rfl⟩)) ?_).trans ?_
  · funext a
    apply Fin.ext
    match a with
    | ⟨0, _⟩ => rfl
    | ⟨1, _⟩ => rfl
    | ⟨2, _⟩ => show 128 + 1 * e.val = 0 + 1 * (128 + e.val); omega
  · intro q hq hy
    rcases List.mem_append.1 hq with hq | hq
    · obtain ⟨c, _, rfl⟩ := (mem_up _ _ _ _).1 hq
      have h := (Rect.mem_set_unit (inb := inbB c)).1 hy 0
      have : c = ch := Fin.ext (by
        have h1 : c.val ≤ ch.val + 1 * 0 := h.1
        have h2 : ch.val + 1 * 0 < c.val + 1 := h.2
        omega)
      rw [this]
    · obtain ⟨c, _, rfl⟩ := (mem_down _ _ _ _).1 hq
      have h : 0 + 1 * (128 + e.val) < 0 + 128 := ((Rect.mem_set_unit (inb := inbF c)).1 hy 2).2
      omega
  · unfold stPieceB
    generalize stB (k0_pay15 l') (kvBr m16 K V t2 t3) (15 - ch.val) (by omega) = S
    show shapeCast S1x128x128 _ _ (ix3 (0 : Fin 1) d e) = _
    pointwise

/-- Row `r` of chunk `ch` of the output. -/
theorem outL_at (ch : Fin 16) (r : Fin 256) (e : Fin 128) :
    View.canon (outL m16 m17 Q K V G l l' intra t0 t1 t2 t3 rw) (ix4 (0 : Fin 1) (0 : Fin 1) (⟨256 * ch.val + r.val, by omega⟩ : Fin 4096) e : S1x1x4096x128.Idx)
      = outC (Q ch) (K ch) (V ch) (G ch) (stR m16 m17 K V l l' t2 t3 ch) intra t0 t1 rw (ix4 (0 : Fin 1) (0 : Fin 1) r e) := by
  refine canon_at (outPiece Q K V G (stR m16 m17 K V l l' t2 t3) intra t0 t1 rw ch) _ (ix4 (0 : Fin 1) (0 : Fin 1) r e) ?_ _ ((mem_down _ _ _ _).2 ⟨ch, ch.isLt, rfl⟩) ?_
  · funext a
    apply Fin.ext
    match a with
    | ⟨0, _⟩ => rfl
    | ⟨1, _⟩ => rfl
    | ⟨2, _⟩ => show 256 * ch.val + 1 * r.val = 256 * ch.val + r.val; omega
    | ⟨3, _⟩ => show 0 + 1 * e.val = e.val; omega
  · intro q hq hy
    obtain ⟨c, _, rfl⟩ := (mem_down _ _ _ _).1 hq
    have h := (Rect.mem_set_unit (inb := inbO c)).1 hy 2
    have : c = ch := Fin.ext (by
      have h1 : 256 * c.val ≤ 256 * ch.val + r.val := h.1
      have h2 : 256 * ch.val + r.val < 256 * c.val + 256 := h.2
      omega)
    rw [this]
end values

end Cert.Proof.Ret

end
-- ==== Proof.RetTab.lean ====
/-
  Constants and tables over the reals: the patterns of the constants, the counters read as floats, and the kernel's tables of decays.
-/
module

public import proofs.«01_k».proof.Proof.RetPiece
public import Idealize.ShloMosaic.Lib.IdealHost

@[expose] public section

set_option maxHeartbeats 2000000

noncomputable section

namespace Cert.Proof.Ret

open Idealize.ShloMosaic Cert.KernelIdeal Cert.KernelIdeal.Gen

theorem c256 : Ideal.ofBits .f32 0x43800000#32 = ((256 : ℝ) : EReal) := by
  simp [Ideal.ofBits, Ideal.ieee, -EReal.coe_mul]; norm_num
theorem c255 : Ideal.ofBits .f32 0x437F0000#32 = ((255 : ℝ) : EReal) := by
  simp [Ideal.ofBits, Ideal.ieee, -EReal.coe_mul]; norm_num
theorem c128 : Ideal.ofBits .f32 0x43000000#32 = ((128 : ℝ) : EReal) := by
  simp [Ideal.ofBits, Ideal.ieee, -EReal.coe_mul]; norm_num
theorem c127 : Ideal.ofBits .f32 0x42FE0000#32 = ((127 : ℝ) : EReal) := by
  simp [Ideal.ofBits, Ideal.ieee, -EReal.coe_mul]; norm_num

/-- The scale of the queries, as a real. -/
def qsc : ℝ := (Ideal.ofBits .f32 0x3DB504F3#32).toReal

theorem qsc_coe : Ideal.ofBits .f32 0x3DB504F3#32 = (qsc : EReal) := by
  have h : ∃ x : ℝ, Ideal.ofBits .f32 0x3DB504F3#32 = (x : EReal) := by
    simp only [Ideal.ofBits, Ideal.ieee]
    simp [-EReal.coe_mul]
  obtain ⟨x, hx⟩ := h
  rw [qsc, hx, EReal.toReal_coe]

/-- A small counter read as a float is the counter. -/
theorem f_nat (r : ℕ) (h : r < 2 ^ 31) : (FloatOps.sitofp FTy.f32 (BitVec.ofNat 32 r) : Ideal .f32) = ((r : ℝ) : EReal) := by
  show (((BitVec.ofNat 32 r).toInt : ℝ) : EReal) = _
  have : (BitVec.ofNat 32 r).toInt = (r : ℤ) := by
    rw [BitVec.toInt_eq_toNat_cond, BitVec.toNat_ofNat]; omega
  rw [this]; simp

/-- The difference of two small counters read as a float is the difference. -/
theorem f_sub (r d : ℕ) (h : r < 2 ^ 30) (h' : d < 2 ^ 30) :
    (FloatOps.sitofp FTy.f32 (IntOp.subi (BitVec.ofNat 32 r) (BitVec.ofNat 32 d)) : Ideal .f32) = ((r - d : ℝ) : EReal) := by
  show (((BitVec.ofNat 32 r - BitVec.ofNat 32 d).toInt : ℝ) : EReal) = _
  have : (BitVec.ofNat 32 r - BitVec.ofNat 32 d).toInt = (r : ℤ) - d := by
    rw [BitVec.toInt_eq_toNat_cond, BitVec.toNat_sub, BitVec.toNat_ofNat, BitVec.toNat_ofNat]; omega
  rw [this]; push_cast; rfl

/-- What a small position leaves of a distance. -/
theorem room (n r : ℕ) (h : r ≤ n) : (0 : ℝ) ≤ (n : ℝ) - r := sub_nonneg.2 (Nat.cast_le.2 h)

section tables
variable (l l' : Elt Ideal .f32) (x x' : EReal) (hl : l = x) (hl' : l' = x')
include hl in
theorem tab0 (r : Fin 256) (d : Fin 128) : k0_pay4 (k0_pay9 l) (ix3 (0 : Fin 1) r d) = ((decay x (r.val + 1) * qsc : ℝ) : EReal) := by
  pointwise [k0_pay4, k0_pay9, k0_pay3]
  rw [hl, f_nat _ (by omega), qsc_coe, ← EReal.coe_one, ← EReal.coe_add, exp_decay _ _ (by positivity), ← EReal.coe_mul]
include hl' in
theorem tab1 (r : Fin 256) (d : Fin 128) : k0_pay11 (k0_pay5 (k0_pay10 l')) k0_pay6 (ix3 (0 : Fin 1) r d) = ((decay x' (256 - r.val) * qsc : ℝ) : EReal) := by
  pointwise [k0_pay11, k0_pay10, k0_pay5, k0_pay3, k0_pay6]
  rw [hl', f_nat _ (by omega), qsc_coe, c256, ← EReal.coe_sub, exp_decay _ _ (by simpa only [Nat.cast_ofNat] using room 256 r.val (by omega)), ← EReal.coe_mul]
include hl in
theorem tab2 (r : Fin 256) (d : Fin 128) : k0_pay12 l k0_pay3 (ix3 (0 : Fin 1) r d) = ((decay x (255 - r.val) : ℝ) : EReal) := by
  pointwise [k0_pay12, k0_pay9, k0_pay3]
  rw [hl, f_nat _ (by omega), c255, ← EReal.coe_sub, exp_decay _ _ (by simpa only [Nat.cast_ofNat] using room 255 r.val (by omega))]
include hl' in
theorem tab3 (r : Fin 256) (d : Fin 128) : k0_pay13 l' k0_pay3 (ix3 (0 : Fin 1) r d) = ((decay x' r.val : ℝ) : EReal) := by
  pointwise [k0_pay13, k0_pay10, k0_pay3]
  rw [hl', f_nat _ (by omega), exp_decay _ _ (Nat.cast_nonneg _)]
include hl hl' in
theorem tabI (r j : Fin 256) : k0_pay2 (k0_pay9 l) (k0_pay10 l') (ix2 r j)
    = (((if j.val ≤ r.val then decay x (r.val - j.val) else decay x' (j.val - r.val)) * qsc : ℝ) : EReal) := by
  pointwise [k0_pay2, k0_pay9, k0_pay10]
  rw [hl, hl', f_sub _ _ (by omega) (by omega), qsc_coe, EReal.coe_mul]
  congr 1
  by_cases h : j.val ≤ r.val
  · have h' : (0 : ℝ) ≤ (r.val : ℝ) - j.val := by simpa using h
    rw [if_pos h, if_pos (by rw [← EReal.coe_zero]; exact EReal.coe_le_coe_iff.2 h'), max_eq_left (by rw [← EReal.coe_zero]; exact EReal.coe_le_coe_iff.2 h'), exp_decay _ _ (h')]
  · have h' : ¬ (0 : ℝ) ≤ (r.val : ℝ) - j.val := by simpa using h
    have h'' : (0 : ℝ) ≤ 0 - ((r.val : ℝ) - j.val) := by linarith
    rw [if_neg h, if_neg (by rw [← EReal.coe_zero]; exact fun q => h' (EReal.coe_le_coe_iff.1 q)), ← EReal.coe_zero, ← EReal.coe_sub,
      max_eq_left (EReal.coe_le_coe_iff.2 h''), EReal.coe_zero, exp_decay _ _ (h'')]
    congr 2; ring
include hl in
theorem cdecF (d : Fin 128) : k0_pay14 l (ix2 (0 : Fin 1) d) = ((decay x 256 : ℝ) : EReal) := by
  pointwise [k0_pay14, k0_pay9]
  rw [hl, c256, exp_decay _ _ (by norm_num)]
include hl' in
theorem cdecB (d : Fin 128) : k0_pay15 l' (ix2 (0 : Fin 1) d) = ((decay x' 256 : ℝ) : EReal) := by
  pointwise [k0_pay15, k0_pay10]
  rw [hl', c256, exp_decay _ _ (by norm_num)]
end tables

/-- The normalised, gated output row, of its row before normalisation, its weights and its gate. -/
def fin (o w g : Fin 128 → EReal) (e : Fin 128) : EReal :=
  o e * Ideal.rsqrt (Ideal.div (∑ d : Fin 128, o d * o d) (Ideal.ofBits .f32 0x43000000#32) + Ideal.ofBits .f32 0x358637BD#32) * w e
    * (g e * Ideal.div 1 (1 + Ideal.exp (0 - g e)))

/-- A row of the output before its normalisation: three products. -/
def orow (q : Fin 128 → EReal) (K V : Fin 256 → Fin 128 → EReal) (st : Fin 128 → Fin 256 → EReal) (I : Fin 256 → EReal) (a b : Fin 128 → EReal) (e : Fin 128) : EReal :=
  (∑ j, (∑ d, q d * K j d) * I j * V j e) + (∑ d, q d * st d ⟨e.val, by omega⟩) * a e + (∑ d, q d * st d ⟨128 + e.val, by omega⟩) * b e

/-- A chunk's output row, in its rows. -/
theorem outC_fin (q k v g : Vec Ideal S1x1x1x256x128 .bf16) (st : Vec Ideal S1x128x256 .bf16) (intra : Vec Ideal S256x256 .f32) (qf qb : Vec Ideal S1x256x128 .f32) (rw : Vec Ideal S1x1x128 .f32) (r : Fin 256) (e : Fin 128) :
    outC q k v g st intra qf qb rw (ix4 (0 : Fin 1) (0 : Fin 1) r e)
      = fin (orow (fun d => q (ix5 (0 : Fin 1) (0 : Fin 1) (0 : Fin 1) r d)) (fun j d => k (ix5 (0 : Fin 1) (0 : Fin 1) (0 : Fin 1) j d)) (fun j d => v (ix5 (0 : Fin 1) (0 : Fin 1) (0 : Fin 1) j d))
          (fun d x => st (ix3 (0 : Fin 1) d x)) (fun j => intra (ix2 r j)) (fun d => qf (ix3 (0 : Fin 1) r d)) (fun d => qb (ix3 (0 : Fin 1) r d)))
          (fun d => rw (ix3 (0 : Fin 1) (0 : Fin 1) d)) (fun d => g (ix5 (0 : Fin 1) (0 : Fin 1) (0 : Fin 1) r d)) e := by
  unfold outC
  pointwise [k0_pay105, k0_pay106, k0_pay107, k0_pay108]
  rfl

section reals
variable (m16 : Memref sig .tc .vmem S16x128x256 .f32) (m17 : Memref sig .tc .vmem S16x128x256 .bf16)
variable (Q K V G : Fin 16 → Vec Ideal S1x1x1x256x128 .bf16) (l l' : Elt Ideal .f32) (intra : Vec Ideal S256x256 .f32) (t0 t1 t2 t3 : Vec Ideal S1x256x128 .f32) (rw : Vec Ideal S1x1x128 .f32)
variable (qr : ℕ → Fin 128 → ℝ) (kr : ℕ → Fin 128 → EReal) (vr : ℕ → Fin 128 → ℝ) (x x' : EReal)

/-- What the chunks, the decays and the tables hold: real queries and values, and keys. -/
structure Reads : Prop where
  l : l = x
  l' : l' = x'
  q (c : Fin 16) (r : Fin 256) (d : Fin 128) : Q c (ix5 (0 : Fin 1) (0 : Fin 1) (0 : Fin 1) r d) = ((qr (c.val * 256 + r.val) d : ℝ) : EReal)
  k (c : Fin 16) (r : Fin 256) (d : Fin 128) : K c (ix5 (0 : Fin 1) (0 : Fin 1) (0 : Fin 1) r d) = kr (c.val * 256 + r.val) d
  v (c : Fin 16) (r : Fin 256) (d : Fin 128) : V c (ix5 (0 : Fin 1) (0 : Fin 1) (0 : Fin 1) r d) = ((vr (c.val * 256 + r.val) d : ℝ) : EReal)
  t0 (r : Fin 256) (d : Fin 128) : t0 (ix3 (0 : Fin 1) r d) = ((decay x (r.val + 1) * qsc : ℝ) : EReal)
  t1 (r : Fin 256) (d : Fin 128) : t1 (ix3 (0 : Fin 1) r d) = ((decay x' (256 - r.val) * qsc : ℝ) : EReal)
  t2 (r : Fin 256) (d : Fin 128) : t2 (ix3 (0 : Fin 1) r d) = ((decay x (255 - r.val) : ℝ) : EReal)
  t3 (r : Fin 256) (d : Fin 128) : t3 (ix3 (0 : Fin 1) r d) = ((decay x' r.val : ℝ) : EReal)
  i (r j : Fin 256) : intra (ix2 r j) = (((if j.val ≤ r.val then decay x (r.val - j.val) else decay x' (j.val - r.val)) * qsc : ℝ) : EReal)

/-- A sequence of 4096 positions read from its end. -/
def fromEnd {α : Type} (f : ℕ → Fin 128 → α) (s : ℕ) (d : Fin 128) : α := f (4095 - s) d

variable {Q K V l l' intra t0 t1 t2 t3 qr kr vr x x'}
variable (h : Reads Q K V l l' intra t0 t1 t2 t3 qr kr vr x x')
include h

/-- A chunk's forward key-value product. -/
theorem kvF_real (ch : Fin 16) (d e : Fin 128) :
    mag (kvFr m16 K V t2 t3 ch (ix3 (0 : Fin 1) d e))
      = ∑ j : Fin 256, km kr (ch.val * 256 + j) d * ((vr (ch.val * 256 + j) e * decay x (256 - 1 - (j : ℕ)) : ℝ) : W) := by
  rw [kvFr_at]
  pointwise [k0_pay20]
  rw [mag_sum]
  refine Finset.sum_congr rfl fun r _ => ?_
  rw [h.k, h.v, h.t2, ← EReal.coe_mul, mag_mul_coe, show (256 - 1 - (r.val : ℝ)) = 255 - r.val by norm_num]
  rfl

/-- A chunk's backward key-value product, its rows counted from the end. -/
theorem kvB_real (n : ℕ) (hn : n < 16) (d e : Fin 128) :
    mag (kvBr m16 K V t2 t3 ⟨15 - n, by omega⟩ (ix3 (0 : Fin 1) d e))
      = ∑ j : Fin 256, km (fromEnd kr) (n * 256 + j) d * ((fromEnd vr (n * 256 + j) e * decay x' (256 - 1 - (j : ℕ)) : ℝ) : W) := by
  rw [kvBr_at]
  pointwise [k0_pay20]
  rw [mag_sum, ← Equiv.sum_comp Fin.revPerm]
  refine Finset.sum_congr rfl fun r _ => ?_
  rw [h.k, h.v, h.t3, ← EReal.coe_mul, mag_mul_coe]
  have e1 : (15 - n) * 256 + (Fin.revPerm r).val = 4095 - (n * 256 + r.val) := by
    show (15 - n) * 256 + (Fin.rev r).val = _
    rw [Fin.val_rev]; omega
  have e2 : (((Fin.revPerm r).val : ℕ) : ℝ) = 256 - 1 - (r.val : ℝ) := by
    show (((Fin.rev r).val : ℕ) : ℝ) = _
    rw [Fin.val_rev, Nat.cast_sub (by omega)]; push_cast; ring
  show mag (kr ((15 - n) * 256 + (Fin.revPerm r).val) d) * ((vr ((15 - n) * 256 + (Fin.revPerm r).val) e * decay x' ((Fin.revPerm r).val : ℕ) : ℝ) : W) = _
  rw [e1, e2]; rfl

/-- The forward state before chunk `n`. -/
theorem stF_real : ∀ (n : ℕ) (hn : n ≤ 16) (d e : Fin 128),
    mag (stF (k0_pay14 l) (kvFr m16 K V t2 t3) n hn (ix2 d e)) = state 256 128 x (km kr) vr n d e
  | 0, _, d, e => by
    rw [stF]; pointwise [k0_pay41]; rw [state, mag_zero]
  | n + 1, hn, d, e => by
    have ih := stF_real n (Nat.le_of_succ_le hn) d e
    have hk := kvF_real m16 h ⟨n, hn⟩ d e
    have hc := cdecF l x h.l e
    rw [stF, state]
    revert ih hk hc
    generalize stF (k0_pay14 l) (kvFr m16 K V t2 t3) n (Nat.le_of_succ_le hn) = S
    generalize kvFr m16 K V t2 t3 ⟨n, hn⟩ = U
    generalize k0_pay14 l = Z
    intro ih hk hc
    pointwise
    rw [hc, mag_add, mag_mul_coe, ih, hk]
    simp only [Nat.cast_ofNat]

/-- The backward state after `n` chunks from the end. -/
theorem stB_real : ∀ (n : ℕ) (hn : n ≤ 16) (d e : Fin 128),
    mag (stB (k0_pay15 l') (kvBr m16 K V t2 t3) n hn (ix2 d e)) = state 256 128 x' (km (fromEnd kr)) (fromEnd vr) n d e
  | 0, _, d, e => by
    rw [stB]; pointwise [k0_pay41]; rw [state, mag_zero]
  | n + 1, hn, d, e => by
    have ih := stB_real n (Nat.le_of_succ_le hn) d e
    have hk := kvB_real m16 h n hn d e
    have hc := cdecB l' x' h.l' e
    rw [stB, state]
    revert ih hk hc
    generalize stB (k0_pay15 l') (kvBr m16 K V t2 t3) n (Nat.le_of_succ_le hn) = S
    generalize kvBr m16 K V t2 t3 ⟨15 - n, by omega⟩ = U
    generalize k0_pay15 l' = Z
    intro ih hk hc
    pointwise
    rw [hc, mag_add, mag_mul_coe, ih, hk]
    simp only [Nat.cast_ofNat]

omit h in
/-- The retention of one head at a position: both directions' decaying sums, scaled. -/
def ret (qr : ℕ → Fin 128 → ℝ) (kr : ℕ → Fin 128 → EReal) (vr : ℕ → Fin 128 → ℝ) (x x' : EReal) (s : ℕ) (e : Fin 128) : W :=
  (fullOut 128 0 x qr (km kr) vr s e + fullOut 128 1 x' (fromEnd qr) (km (fromEnd kr)) (fromEnd vr) (4095 - s) e) * (qsc : W)

/-- A row of the output before its normalisation is the retention at its position. -/
theorem orow_ret (ch : Fin 16) (r : Fin 256) (e : Fin 128) :
    mag (orow (fun d => Q ch (ix5 (0 : Fin 1) (0 : Fin 1) (0 : Fin 1) r d)) (fun j d => K ch (ix5 (0 : Fin 1) (0 : Fin 1) (0 : Fin 1) j d)) (fun j d => V ch (ix5 (0 : Fin 1) (0 : Fin 1) (0 : Fin 1) j d))
        (fun d y => stR m16 m17 K V l l' t2 t3 ch (ix3 (0 : Fin 1) d y)) (fun j => intra (ix2 r j)) (fun d => t0 (ix3 (0 : Fin 1) r d)) (fun d => t1 (ix3 (0 : Fin 1) r d)) e)
      = ret qr kr vr x x' (ch.val * 256 + r.val) e := by
  unfold orow
  simp only [stR_fwd, stR_bwd, h.q, h.k, h.v, h.t0, h.t1, h.i, mag_add, mag_sum, mag_mul_coe, mag_coe_mul, stF_real m16 h, stB_real m16 h]
  unfold ret
  have hb : 4095 - (ch.val * 256 + r.val) = (15 - ch.val) * 256 + (255 - r.val) := by omega
  rw [hb, ← chunkOut_eq 256 128 0 (by omega) _ _ _ _ _ _ r.isLt, ← chunkOut_eq 256 128 1 le_rfl _ _ _ _ _ _ (show 255 - r.val < 256 by omega)]
  unfold chunkOut
  have hq : ∀ d, fromEnd qr ((15 - ch.val) * 256 + (255 - r.val)) d = qr (ch.val * 256 + r.val) d := fun d => by
    unfold fromEnd; congr 1; omega
  have hr : ((255 - r.val : ℕ) : ℝ) = 255 - r.val := by rw [Nat.cast_sub (by omega)]; norm_num
  simp only [hq, hr]
  have e1 : (∑ j : Fin 256, (∑ d, (qr (ch.val * 256 + r.val) d : W) * km (fromEnd kr) ((15 - ch.val) * 256 + (j : ℕ)) d)
        * ((if (j : ℕ) + 1 ≤ 255 - r.val then decay x' ((255 - r.val : ℝ) - (j : ℕ)) else 0 : ℝ) : W) * ((fromEnd vr ((15 - ch.val) * 256 + (j : ℕ)) e : ℝ) : W))
      = ∑ j : Fin 256, (∑ d, (qr (ch.val * 256 + r.val) d : W) * km kr (ch.val * 256 + j) d)
        * ((if j.val ≤ r.val then 0 else decay x' (j.val - r.val) : ℝ) : W) * (vr (ch.val * 256 + j) e : W) := by
    rw [← Equiv.sum_comp Fin.revPerm]
    refine Finset.sum_congr rfl fun j _ => ?_
    have hj : (Fin.revPerm j).val = 255 - j.val := by show (Fin.rev j).val = _; rw [Fin.val_rev]; omega
    have hj' : ((255 - j.val : ℕ) : ℝ) = 255 - j.val := by rw [Nat.cast_sub (by omega)]; norm_num
    have hn : 4095 - ((15 - ch.val) * 256 + (255 - j.val)) = ch.val * 256 + j.val := by omega
    simp only [hj, hj', km, fromEnd, hn]
    by_cases h1 : j.val ≤ r.val
    · rw [if_pos h1, if_neg (by omega)]
    · rw [if_neg h1, if_pos (by omega)]; congr 4; ring
  rw [e1]
  have e2 : (∑ j : Fin 256, (∑ d, (qr (ch.val * 256 + r.val) d : W) * mag (kr (ch.val * 256 + j) d))
        * (((if j.val ≤ r.val then decay x (r.val - j.val) else decay x' (j.val - r.val)) * qsc : ℝ) : W) * (vr (ch.val * 256 + j) e : W))
      = ((∑ j : Fin 256, (∑ d, (qr (ch.val * 256 + r.val) d : W) * km kr (ch.val * 256 + j) d)
        * ((if (j : ℕ) + 0 ≤ r.val then decay x ((r.val : ℝ) - (j : ℕ)) else 0 : ℝ) : W) * (vr (ch.val * 256 + j) e : W))
        + ∑ j : Fin 256, (∑ d, (qr (ch.val * 256 + r.val) d : W) * km kr (ch.val * 256 + j) d)
        * ((if j.val ≤ r.val then 0 else decay x' (j.val - r.val) : ℝ) : W) * (vr (ch.val * 256 + j) e : W)) * (qsc : W) := by
    rw [← Finset.sum_add_distrib, sum_mul_coe]
    refine Finset.sum_congr rfl fun j _ => ?_
    by_cases h1 : j.val ≤ r.val
    · simp only [if_pos h1, add_zero, WithTop.coe_mul, WithTop.coe_zero, mul_zero, zero_mul, km]; ac_rfl
    · simp only [if_neg h1, add_zero, zero_add, WithTop.coe_mul, WithTop.coe_zero, mul_zero, zero_mul, km]; ac_rfl
  rw [e2]
  have e3 : (256 - r.val : ℝ) = 255 - r.val + 1 := by ring
  rw [e3]
  simp only [WithTop.coe_mul, add_mul_coe]
  ac_rfl

omit h in
/-- A row with an infinite entry is normalised to zero. -/
theorem rsqrt_of_top (o : Fin 128 → EReal) (d : Fin 128) (hd : mag (o d) = ⊤) :
    Ideal.rsqrt (Ideal.div (∑ d : Fin 128, o d * o d) (Ideal.ofBits .f32 0x43000000#32) + Ideal.ofBits .f32 0x358637BD#32) = 0 := by
  have hs : ∀ d, 0 ≤ o d * o d := fun d => by
    rcases le_total 0 (o d) with h | h
    · exact mul_nonneg h h
    · rw [← neg_mul_neg]; exact mul_nonneg (EReal.neg_nonneg.2 h) (EReal.neg_nonneg.2 h)
  have ht : o d * o d = ⊤ := by
    unfold mag at hd
    split at hd
    · rename_i h
      rcases h with h | h <;> rw [h] <;> rfl
    · exact absurd hd WithTop.coe_ne_top
  have hsum : (∑ d : Fin 128, o d * o d) = ⊤ := top_unique (ht ▸ Finset.single_le_sum (f := fun d => o d * o d) (fun d _ => hs d) (Finset.mem_univ d))
  have hε : ∃ y : ℝ, Ideal.ofBits .f32 0x358637BD#32 = (y : EReal) := by
    simp only [Ideal.ofBits, Ideal.ieee]
    simp [-EReal.coe_mul]
  obtain ⟨y, hy⟩ := hε
  rw [hsum, c128, Ideal.div_coe (by norm_num), EReal.top_mul_coe_of_pos (by norm_num), hy, EReal.top_add_coe, Ideal.rsqrt_top]

omit h in
/-- A real, or the positive infinity. -/
def back (r : W) : EReal := WithTop.recTopCoe ⊤ (fun r : ℝ => (r : EReal)) r

omit h in
theorem mag_back (r : W) : mag (back r) = r := by
  induction r using WithTop.recTopCoe with
  | top => exact mag_top
  | coe r => exact mag_coe r

omit h in
/-- The normalised row does not depend on the signs of infinite entries. -/
theorem fin_back (o w g : Fin 128 → EReal) (r : Fin 128 → W) (ho : ∀ d, mag (o d) = r d) (e : Fin 128) : fin o w g e = fin (fun d => back (r d)) w g e := by
  by_cases ht : ∃ d, r d = ⊤
  · obtain ⟨d, hd⟩ := ht
    unfold fin
    rw [rsqrt_of_top o d ((ho d).trans hd), rsqrt_of_top (fun d => back (r d)) d ((mag_back _).trans hd), mul_zero, mul_zero]
  · refine congrArg (fun o => fin o w g e) (funext fun d => ?_)
    have hd : mag (o d) ≠ ⊤ := fun h => ht ⟨d, (ho d).symm.trans h⟩
    rw [← ho]
    unfold mag at hd ⊢
    split
    · rename_i h; exact absurd (if_pos h) hd
    · rename_i h
      exact (EReal.coe_toReal (fun e => h (Or.inl e)) (fun e => h (Or.inr e))).symm

end reals

end Cert.Proof.Ret

end
-- ==== Proof.RetBlk.lean ====
/-
  The blocks a grid point of the retention reads, as the arguments' elements: point `4 h + b` takes head `h` of batch `b`.
-/
module

public import proofs.«01_k».proof.Proof.RetTab
public import proofs.«01_k».proof.Proof.Gen.KernelIdeal.Value

@[expose] public section

set_option maxHeartbeats 2000000

noncomputable section

namespace Cert.Proof.Ret

open Idealize.ShloMosaic Idealize.ShloMosaic.TcCoe Idealize.SL.Sem Cert.KernelIdeal Cert.KernelIdeal.Gen

/-- The head of a point. -/
def hd (t : Fin cfg0.N) : Fin 8 := ⟨t.val / 4, by have h1 := t.isLt; have h : cfg0.N = 32 := N_0; omega⟩

/-- The batch of a point. -/
def bt (t : Fin cfg0.N) : Fin 4 := ⟨t.val % 4, by omega⟩

/-- The blocks' numbers at a point, and the offset of its decays, decided over the points. -/
theorem index_t : ∀ t : Fin cfg0.N,
    (win0_0.index t 0 = 0 ∧ win0_1.index t 0 = 0 ∧ k0_off1 (grid0.coords t) 0 = t.val / 4)
    ∧ (win0_2.index t 0 = 0 ∧ win0_2.index t 1 = t.val % 4 ∧ win0_2.index t 2 = t.val / 4 ∧ win0_2.index t 3 = 0 ∧ win0_2.index t 4 = 0)
    ∧ (win0_3.index t 0 = 1 ∧ win0_3.index t 1 = t.val % 4 ∧ win0_3.index t 2 = t.val / 4 ∧ win0_3.index t 3 = 0 ∧ win0_3.index t 4 = 0)
    ∧ (win0_4.index t 0 = 2 ∧ win0_4.index t 1 = t.val % 4 ∧ win0_4.index t 2 = t.val / 4 ∧ win0_4.index t 3 = 0 ∧ win0_4.index t 4 = 0)
    ∧ (win0_5.index t 0 = 3 ∧ win0_5.index t 1 = t.val % 4 ∧ win0_5.index t 2 = t.val / 4 ∧ win0_5.index t 3 = 0 ∧ win0_5.index t 4 = 0)
    ∧ (win0_6.index t 0 = t.val / 4 ∧ win0_6.index t 1 = 0 ∧ win0_6.index t 2 = 0)
    ∧ (win0_7.index t 0 = t.val ∧ win0_7.index t 1 = 0) ∧ (win0_8.index t 0 = t.val ∧ win0_8.index t 1 = 0) :=
  (by decide +kernel : ∀ t : Fin grid0.N, _)

variable (m : (ℓ : Loc nD τ sig) → Buf (Elt Ideal) ℓ) (c : Dev nD) (t : Fin cfg0.N)

/-- The forward decays are read whole. -/
theorem blk_0 (j : Fin 8) : (iblk m c 0 t : Vec Ideal S8 .f32) (ix1 j) = m ((c : Thread nD τ).loc main_arg0) (ix1 j) := by
  have hi := (index_t t).1.1
  rw [← V_main_arg0 m c]
  unfold iblk
  rw [View.read_apply]
  show V m c main_arg0 _ = _
  congr 1
  funext a
  apply Fin.ext
  match a with
  | ⟨0, _⟩ => show win0_0.index t 0 * 8 + 1 * j.val = j.val; rw [hi]; omega

/-- The backward decays are read whole. -/
theorem blk_1 (j : Fin 8) : (iblk m c 1 t : Vec Ideal S8 .f32) (ix1 j) = m ((c : Thread nD τ).loc main_arg1) (ix1 j) := by
  have hi := (index_t t).1.2.1
  rw [← V_main_arg1 m c]
  unfold iblk
  rw [View.read_apply]
  show V m c main_arg1 _ = _
  congr 1
  funext a
  apply Fin.ext
  match a with
  | ⟨0, _⟩ => show win0_1.index t 0 * 8 + 1 * j.val = j.val; rw [hi]; omega

/-- An index of a block of the projections, at the place the block's number gives. -/
theorem place (p : Fin 4) (i : Fin 5 → ℕ) (h0 : i 0 = p.val) (h1 : i 1 = t.val % 4) (h2 : i 2 = t.val / 4) (h3 : i 3 = 0) (h4 : i 4 = 0)
    (s : Fin 4096) (d : Fin 128) (y : S4x4x8x4096x128.Idx)
    (hy : ∀ a, (y a).val = i a * S1x1x1x4096x128.size a + 1 * ((ix5 (0 : Fin 1) (0 : Fin 1) (0 : Fin 1) s d : S1x1x1x4096x128.Idx) a).val) : y = ix5 p (bt t) (hd t) s d := by
  funext a
  apply Fin.ext
  rw [hy a]
  match a with
  | ⟨0, _⟩ => show i 0 * 1 + 1 * 0 = p.val; omega
  | ⟨1, _⟩ => show i 1 * 1 + 1 * 0 = t.val % 4; omega
  | ⟨2, _⟩ => show i 2 * 1 + 1 * 0 = t.val / 4; omega
  | ⟨3, _⟩ => show i 3 * 4096 + 1 * s.val = s.val; omega
  | ⟨4, _⟩ => show i 4 * 128 + 1 * d.val = d.val; omega

/-- The queries of a point's head and batch. -/
theorem blk_2 (s : Fin 4096) (d : Fin 128) : (iblk m c 2 t : Vec Ideal S1x1x1x4096x128 .bf16) (ix5 (0 : Fin 1) (0 : Fin 1) (0 : Fin 1) s d)
    = m ((c : Thread nD τ).loc main_arg2) (ix5 (0 : Fin 4) (bt t) (hd t) s d) := by
  obtain ⟨h0, h1, h2, h3, h4⟩ := (index_t t).2.1
  rw [← V_main_arg2 m c]
  unfold iblk
  rw [View.read_apply]
  show V m c main_arg2 _ = _
  exact congrArg (V m c main_arg2) (place t 0 (win0_2.index t) h0 h1 h2 h3 h4 s d _ fun a => rfl)

/-- Its keys. -/
theorem blk_3 (s : Fin 4096) (d : Fin 128) : (iblk m c 3 t : Vec Ideal S1x1x1x4096x128 .bf16) (ix5 (0 : Fin 1) (0 : Fin 1) (0 : Fin 1) s d)
    = m ((c : Thread nD τ).loc main_arg2) (ix5 (1 : Fin 4) (bt t) (hd t) s d) := by
  obtain ⟨h0, h1, h2, h3, h4⟩ := (index_t t).2.2.1
  rw [← V_main_arg2 m c]
  unfold iblk
  rw [View.read_apply]
  show V m c main_arg2 _ = _
  exact congrArg (V m c main_arg2) (place t 1 (win0_3.index t) h0 h1 h2 h3 h4 s d _ fun a => rfl)

/-- Its values. -/
theorem blk_4 (s : Fin 4096) (d : Fin 128) : (iblk m c 4 t : Vec Ideal S1x1x1x4096x128 .bf16) (ix5 (0 : Fin 1) (0 : Fin 1) (0 : Fin 1) s d)
    = m ((c : Thread nD τ).loc main_arg2) (ix5 (2 : Fin 4) (bt t) (hd t) s d) := by
  obtain ⟨h0, h1, h2, h3, h4⟩ := (index_t t).2.2.2.1
  rw [← V_main_arg2 m c]
  unfold iblk
  rw [View.read_apply]
  show V m c main_arg2 _ = _
  exact congrArg (V m c main_arg2) (place t 2 (win0_4.index t) h0 h1 h2 h3 h4 s d _ fun a => rfl)

/-- Its gates. -/
theorem blk_5 (s : Fin 4096) (d : Fin 128) : (iblk m c 5 t : Vec Ideal S1x1x1x4096x128 .bf16) (ix5 (0 : Fin 1) (0 : Fin 1) (0 : Fin 1) s d)
    = m ((c : Thread nD τ).loc main_arg2) (ix5 (3 : Fin 4) (bt t) (hd t) s d) := by
  obtain ⟨h0, h1, h2, h3, h4⟩ := (index_t t).2.2.2.2.1
  rw [← V_main_arg2 m c]
  unfold iblk
  rw [View.read_apply]
  show V m c main_arg2 _ = _
  exact congrArg (V m c main_arg2) (place t 3 (win0_5.index t) h0 h1 h2 h3 h4 s d _ fun a => rfl)

/-- The weights of its head's group norm. -/
theorem blk_6 (d : Fin 128) : (iblk m c 6 t : Vec Ideal S1x1x128 .f32) (ix3 (0 : Fin 1) (0 : Fin 1) d)
    = m ((c : Thread nD τ).loc main_arg3) (ix1 (⟨(hd t).val * 128 + d.val, by omega⟩ : Fin 1024)) := by
  obtain ⟨h0, h1, h2⟩ := (index_t t).2.2.2.2.2.1
  unfold iblk
  rw [View.read_apply]
  show V m c main_v0 _ = _
  have hV : V m c main_v0 = shapeCast (s := S1024) S8x1x128 (m ((c : Thread nD τ).loc main_arg3)) shapeCasts_S1024_S8x1x128 := rfl
  refine (congrArg (V m c main_v0) (?_ : _ = (ix3 (hd t) (0 : Fin 1) d : S8x1x128.Idx))).trans ?_
  · funext a
    apply Fin.ext
    match a with
    | ⟨0, _⟩ => show win0_6.index t 0 * 1 + 1 * 0 = t.val / 4; omega
    | ⟨1, _⟩ => show win0_6.index t 1 * 1 + 1 * 0 = 0; omega
    | ⟨2, _⟩ => show win0_6.index t 2 * 128 + 1 * d.val = d.val; omega
  · rw [hV]
    generalize m ((c : Thread nD τ).loc main_arg3) = a3
    pointwise

/-- A point's 64 rows of the output projection's weight. -/
theorem blk_7 (r : Fin 64) (n : Fin 2048) : (iblk m c 7 t : Vec Ideal S64x2048 .f32) (ix2 r n)
    = m ((c : Thread nD τ).loc main_arg4) (ix2 (⟨64 * t.val + r.val, by have h1 := t.isLt; have h : cfg0.N = 32 := N_0; omega⟩ : Fin 2048) n) := by
  obtain ⟨h0, h1⟩ := (index_t t).2.2.2.2.2.2.1
  rw [← V_main_arg4 m c]
  unfold iblk
  rw [View.read_apply]
  show V m c main_arg4 _ = _
  congr 1
  funext a
  apply Fin.ext
  match a with
  | ⟨0, _⟩ => show win0_7.index t 0 * 64 + 1 * r.val = 64 * t.val + r.val; omega
  | ⟨1, _⟩ => show win0_7.index t 1 * 2048 + 1 * n.val = n.val; omega

/-- A point's 176 rows of the down projection's weight. -/
theorem blk_8 (r : Fin 176) (n : Fin 2048) : (iblk m c 8 t : Vec Ideal S176x2048 .f32) (ix2 r n)
    = m ((c : Thread nD τ).loc main_arg5) (ix2 (⟨176 * t.val + r.val, by have h1 := t.isLt; have h : cfg0.N = 32 := N_0; omega⟩ : Fin 5632) n) := by
  obtain ⟨h0, h1⟩ := (index_t t).2.2.2.2.2.2.2
  rw [← V_main_arg5 m c]
  unfold iblk
  rw [View.read_apply]
  show V m c main_arg5 _ = _
  congr 1
  funext a
  apply Fin.ext
  match a with
  | ⟨0, _⟩ => show win0_8.index t 0 * 176 + 1 * r.val = 176 * t.val + r.val; omega
  | ⟨1, _⟩ => show win0_8.index t 1 * 2048 + 1 * n.val = n.val; omega

section reads
variable {F : FTy → Type} [FloatOps F]

/-- A row of a chunk is the block's row at the chunk's place. -/
theorem rdI_at (a : Memref sig .tc .vmem S1x1x1x4096x128 .bf16) (ha : a.IsWhole) (x : Vec F S1x1x1x4096x128 .bf16) (ch : Fin 16) (r : Fin 256) (d : Fin 128) :
    rdI a ha x ch (ix5 (0 : Fin 1) (0 : Fin 1) (0 : Fin 1) r d) = x (ix5 (0 : Fin 1) (0 : Fin 1) (0 : Fin 1) (⟨ch.val * 256 + r.val, by omega⟩ : Fin 4096) d) := by
  unfold rdI
  refine (congrFun (View.readAt_eq_ld a.view _ _) _).trans ?_
  rw [ha.read_unread]
  refine congrArg x (funext fun a => Fin.ext ?_)
  match a with
  | ⟨0, _⟩ => rfl
  | ⟨1, _⟩ => rfl
  | ⟨2, _⟩ => rfl
  | ⟨3, _⟩ => show 256 * ch.val + 1 * r.val = ch.val * 256 + r.val; omega
  | ⟨4, _⟩ => show 0 + 1 * d.val = d.val; omega

/-- An entry of a table is the tables' entry. -/
theorem rdT_at (a : Memref sig .tc .vmem S4x256x128 .f32) (ha : a.IsWhole) (x : Vec F S4x256x128 .f32) (n : Fin 4) (r : Fin 256) (d : Fin 128) :
    rdT a ha x n (ix3 (0 : Fin 1) r d) = x (ix3 n r d) := by
  unfold rdT
  refine (congrFun (View.readAt_eq_ld a.view _ _) _).trans ?_
  rw [ha.read_unread]
  refine congrArg x (funext fun a => Fin.ext ?_)
  match a with
  | ⟨0, _⟩ => show n.val + 1 * 0 = n.val; omega
  | ⟨1, _⟩ => show 0 + 1 * r.val = r.val; omega
  | ⟨2, _⟩ => show 0 + 1 * d.val = d.val; omega

/-- An entry of a table read back after the tables are filled is the entry their pieces leave. -/
theorem rdTA_at (a : Memref sig .tc .vmem S4x256x128 .f32) (l l' : Elt F .f32) (n : Fin 4) (r : Fin 256) (d : Fin 128) :
    rdTA a l l' n (ix3 (0 : Fin 1) r d) = View.canon (tabL l l') (ix3 n r d : S4x256x128.Idx) := by
  unfold rdTA
  rw [View.readCov_eq_canon']
  refine congrArg (View.canon (tabL l l')) (funext fun a => Fin.ext ?_)
  match a with
  | ⟨0, _⟩ => show n.val + 1 * 0 = n.val; omega
  | ⟨1, _⟩ => show 0 + 1 * r.val = r.val; omega
  | ⟨2, _⟩ => show 0 + 1 * d.val = d.val; omega
end reads

/-- The decay a point reads is its head's. -/
theorem rdL_at (a : Memref sig .tc .smem S8 .f32) (ha : a.IsWhole) (x : Vec Ideal S8 .f32) :
    rdL (grid0.coords t) a ha x = x (ix1 (hd t)) := by
  have hi := (index_t t).1.2.2
  unfold rdL
  refine (congrFun (View.readAt_eq_ld a.view _ _) _).trans ?_
  rw [ha.read_unread]
  refine congrArg x (funext fun b => Fin.ext ?_)
  match b with
  | ⟨0, _⟩ => show k0_off1 (grid0.coords t) 0 + 1 * 0 = t.val / 4; rw [hi]; omega

/-- The pieces of the tables at an entry: table `n`'s payload. -/
theorem tabL_at (l l' : Elt Ideal .f32) (r : Fin 256) (d : Fin 128) :
    View.canon (tabL l l') (ix3 (0 : Fin 4) r d : S4x256x128.Idx) = k0_pay4 (k0_pay9 l) (ix3 (0 : Fin 1) r d)
    ∧ View.canon (tabL l l') (ix3 (1 : Fin 4) r d : S4x256x128.Idx) = k0_pay11 (k0_pay5 (k0_pay10 l')) k0_pay6 (ix3 (0 : Fin 1) r d)
    ∧ View.canon (tabL l l') (ix3 (2 : Fin 4) r d : S4x256x128.Idx) = k0_pay12 l k0_pay3 (ix3 (0 : Fin 1) r d)
    ∧ View.canon (tabL l l') (ix3 (3 : Fin 4) r d : S4x256x128.Idx) = k0_pay13 l' k0_pay3 (ix3 (0 : Fin 1) r d) := by
  have key : ∀ (n : Fin 4) (h : ∀ a, (![n.val, 0, 0] : Fin 3 → ℕ) a + S1x256x128.size a ≤ S4x256x128.size a) (v : Vec Ideal S1x256x128 .f32),
      (⟨Rect.unit (s := S4x256x128) ![n.val, 0, 0] S1x256x128.size h, v⟩ : View.Piece (Elt Ideal) S4x256x128 .f32) ∈ tabL l l' →
      (∀ q ∈ tabL l l', (ix3 n r d : S4x256x128.Idx) ∈ q.1.set → q = ⟨Rect.unit (s := S4x256x128) ![n.val, 0, 0] S1x256x128.size h, v⟩) →
      View.canon (tabL l l') (ix3 n r d : S4x256x128.Idx) = v (ix3 (0 : Fin 1) r d) := fun n h v hm hu => by
    refine canon_at _ _ (ix3 (0 : Fin 1) r d) ?_ _ hm hu
    funext a
    apply Fin.ext
    match a with
    | ⟨0, _⟩ => show n.val + 1 * 0 = n.val; omega
    | ⟨1, _⟩ => show 0 + 1 * r.val = r.val; omega
    | ⟨2, _⟩ => show 0 + 1 * d.val = d.val; omega
  have un : ∀ (n k : ℕ) (hn : n < 4) {h : ∀ a, (![k, 0, 0] : Fin 3 → ℕ) a + S1x256x128.size a ≤ S4x256x128.size a},
      (ix3 (⟨n, hn⟩ : Fin 4) r d : S4x256x128.Idx) ∈ (Rect.unit (s := S4x256x128) ![k, 0, 0] S1x256x128.size h).set → k = n := @fun n k hn h hm => by
    have := (Rect.mem_set_unit (inb := h)).1 hm 0
    have h1 : k ≤ n := this.1
    have h2 : n < k + 1 := this.2
    omega
  refine ⟨key 0 (inbT 0) _ (List.mem_cons_of_mem _ (List.mem_cons_of_mem _ (List.mem_cons_of_mem _ List.mem_cons_self))) ?_,
    key 1 (inbT 1) _ (List.mem_cons_of_mem _ (List.mem_cons_of_mem _ List.mem_cons_self)) ?_,
    key 2 (inbT 2) _ (List.mem_cons_of_mem _ List.mem_cons_self) ?_,
    key 3 (inbT 3) _ List.mem_cons_self ?_⟩
  all_goals
    intro q hq hy
    simp only [tabL, List.mem_cons, List.not_mem_nil, or_false] at hq
    rcases hq with rfl | rfl | rfl | rfl
    all_goals first | rfl | exact absurd (un _ _ (by decide) (h := by decide) hy) (by decide)

/-- The piece of the table within a chunk at an entry. -/
theorem intraL_at (l l' : Elt Ideal .f32) (r j : Fin 256) :
    View.canon (intraL l l') (ix2 r j : S256x256.Idx) = k0_pay2 (k0_pay9 l) (k0_pay10 l') (ix2 r j) := by
  unfold intraL
  have hz : (![0, 0] : Fin 2 → ℕ) = fun _ => 0 := funext fun a => by fin_cases a <;> rfl
  rw [View.canon_unit_zero hz]

end Cert.Proof.Ret

end
-- ==== Proof.RetRef.lean ====
/-
  One trip of the retention reference: a chunk of each direction, read at an index.
-/
module

public import proofs.«01_k».proof.Proof.Gen.ReferenceIdeal.Step
public import proofs.«01_k».proof.Proof.RetSpec
public import Idealize.ShloMosaic.Lib.Pointwise
public import Idealize.ShloMosaic.Lib.WordCmp

@[expose] public section

set_option maxHeartbeats 2000000

noncomputable section

namespace Cert.Proof.RetRef

open Idealize.ShloMosaic Idealize.ShloMosaic.WordCmp Cert.ReferenceIdeal Cert.ReferenceIdeal.Gen Cert.ReferenceIdeal.Step Cert.Proof.Ret

/-- The start of chunk `j`, as the loop's counters give it. -/
def start (j : ℕ) : Fin 5 → ℤ :=
  fun k => (((![(constantI S_ 32 (BitVec.ofNat 32 j) : (⟨S_, .i32⟩ : BufTy).Contents (Elt Ideal)), constantI S_ 32 0#32, constantI S_ 32 0#32, constantI S_ 32 0#32, constantI S_ 32 0#32] : Fin 5 → (⟨S_, .i32⟩ : BufTy).Contents (Elt Ideal))) k (Shape.Idx.first h_S_)).toInt

theorem start_eq (j : ℕ) (hj : j < 32) : ∀ a, start j a = ((![j, 0, 0, 0, 0] : Fin 5 → ℕ) a : ℤ) := by
  intro a
  match a with
  | ⟨0, _⟩ =>
    show (BitVec.ofNat 32 j).toInt = (j : ℤ)
    rw [BitVec.toInt_eq_toNat_cond, BitVec.toNat_ofNat]; omega
  | ⟨1, _⟩ => rfl
  | ⟨2, _⟩ => rfl
  | ⟨3, _⟩ => rfl
  | ⟨4, _⟩ => rfl

theorem fits (j : ℕ) (hj : j < 32) : S32x4x8x128x128.Slices ![j, 0, 0, 0, 0] S1x4x8x128x128 :=
  ⟨rfl, fun a => by
    match a with
    | ⟨0, _⟩ => show j + 1 ≤ 32; omega
    | ⟨1, _⟩ => show 0 + 4 ≤ 4; omega
    | ⟨2, _⟩ => show 0 + 8 ≤ 8; omega
    | ⟨3, _⟩ => show 0 + 128 ≤ 128; omega
    | ⟨4, _⟩ => show 0 + 128 ≤ 128; omega⟩

/-- Chunk `j` of a chunked array. -/
def dC (X : FVec Ideal S32x4x8x128x128 .f32) (j : ℕ) : FVec Ideal S4x8x128x128 .f32 :=
  shapeCast S4x8x128x128 (Host.dynamicSlice S1x4x8x128x128 X (start j) sliceFits_S32x4x8x128x128_S1x4x8x128x128) shapeCasts_S1x4x8x128x128_S4x8x128x128

theorem dC_at (X : FVec Ideal S32x4x8x128x128 .f32) (j : ℕ) (hj : j < 32) (b : Fin 4) (h : Fin 8) (r d : Fin 128) :
    dC X j (ix4 b h r d) = X (ix5 (⟨j, hj⟩ : Fin 32) b h r d) := by
  unfold dC
  rw [dynamicSlice_eq_extract _ _ _ _ ![j, 0, 0, 0, 0] (fits j hj) (start_eq j hj)]
  pointwise
  try rfl

/-- A chunked array with chunk `j` replaced. -/
def dP (X : FVec Ideal S32x4x8x128x128 .f32) (u : FVec Ideal S4x8x128x128 .f32) (j : ℕ) : FVec Ideal S32x4x8x128x128 .f32 :=
  Host.dynamicUpdateSlice X (broadcastInDim S1x4x8x128x128 ![1, 2, 3, 4] bcast_S4x8x128x128_S1x4x8x128x128_1_2_3_4 u) (start j) updateFits_S32x4x8x128x128_S1x4x8x128x128

theorem dP_same (X : FVec Ideal S32x4x8x128x128 .f32) (u : FVec Ideal S4x8x128x128 .f32) (j : ℕ) (hj : j < 32) (b : Fin 4) (h : Fin 8) (r d : Fin 128) :
    dP X u j (ix5 (⟨j, hj⟩ : Fin 32) b h r d) = u (ix4 b h r d) := by
  unfold dP
  rw [dynamicUpdateSlice_eq_update _ _ _ _ ![j, 0, 0, 0, 0] (fits j hj) (start_eq j hj)]
  pointwise
  rw [dif_pos ⟨le_rfl, Nat.lt_succ_self j⟩]

theorem dP_other (X : FVec Ideal S32x4x8x128x128 .f32) (u : FVec Ideal S4x8x128x128 .f32) (j : ℕ) (hj : j < 32) (c : Fin 32) (hc : c.val ≠ j) (b : Fin 4) (h : Fin 8) (r d : Fin 128) :
    dP X u j (ix5 c b h r d) = X (ix5 c b h r d) := by
  unfold dP
  rw [dynamicUpdateSlice_eq_update _ _ _ _ ![j, 0, 0, 0, 0] (fits j hj) (start_eq j hj), updateSlice_apply, dif_neg]
  intro hin
  have h1 : j ≤ c.val := (hin 0).1
  have h2 : c.val < j + 1 := (hin 0).2
  omega

/-- One direction's output of a chunk. -/
def dO (q k v : FVec Ideal S4x8x128x128 .f32) (m : FVec Ideal S8x128x128 .f32) (qd : FVec Ideal S8x128x1 .f32) (st : FVec Ideal S4x8x128x128 .f32) : FVec Ideal S4x8x128x128 .f32 :=
  addf (F := Ideal) (Host.dotGeneral dot_S4x8x128x128_S4x8x128x128_S4x8x128x128_3_2_2_3_01_01 none
      (mulf (Host.dotGeneral dot_S4x8x128x128_S4x8x128x128_S4x8x128x128_3_3_2_2_01_01 none q k)
        (broadcastInDim S4x8x128x128 ![0, 1, 2, 3] bcast_S1x8x128x128_S4x8x128x128_0_1_2_3 (broadcastInDim S1x8x128x128 ![1, 2, 3] bcast_S8x128x128_S1x8x128x128_1_2_3 m))) v)
    (Host.dotGeneral dot_S4x8x128x128_S4x8x128x128_S4x8x128x128_3_2_2_3_01_01 none
      (mulf q (broadcastInDim S4x8x128x128 ![0, 1, 2, 3] bcast_S1x8x128x1_S4x8x128x128_0_1_2_3 (broadcastInDim S1x8x128x1 ![1, 2, 3] bcast_S8x128x1_S1x8x128x1_1_2_3 qd))) st)

/-- One direction's state after a chunk. -/
def dS (k v : FVec Ideal S4x8x128x128 .f32) (cd : FVec Ideal S8x1x1 .f32) (kd : FVec Ideal S8x128x1 .f32) (st : FVec Ideal S4x8x128x128 .f32) : FVec Ideal S4x8x128x128 .f32 :=
  addf (F := Ideal) (mulf st (broadcastInDim S4x8x128x128 ![0, 1, 2, 3] bcast_S1x8x1x1_S4x8x128x128_0_1_2_3 (broadcastInDim S1x8x1x1 ![1, 2, 3] bcast_S8x1x1_S1x8x1x1_1_2_3 cd)))
    (Host.dotGeneral dot_S4x8x128x128_S4x8x128x128_S4x8x128x128_2_2_3_3_01_01 none
      (mulf k (broadcastInDim S4x8x128x128 ![0, 1, 2, 3] bcast_S1x8x128x1_S4x8x128x128_0_1_2_3 (broadcastInDim S1x8x128x1 ![1, 2, 3] bcast_S8x128x1_S1x8x128x1_1_2_3 kd))) v)

/-- What one direction's arrays hold before chunk `n`: real queries and values, and keys. -/
structure Dir (n : ℕ) (strict : ℕ) (lam : Fin 8 → EReal) (qr : Fin 4 → Fin 8 → ℕ → Fin 128 → ℝ) (kr : Fin 4 → Fin 8 → ℕ → Fin 128 → EReal) (vr : Fin 4 → Fin 8 → ℕ → Fin 128 → ℝ)
    (Q K V : FVec Ideal S32x4x8x128x128 .f32) (m : FVec Ideal S8x128x128 .f32) (qd : FVec Ideal S8x128x1 .f32) (cd : FVec Ideal S8x1x1 .f32) (kd : FVec Ideal S8x128x1 .f32)
    (st : FVec Ideal S4x8x128x128 .f32) (o : FVec Ideal S32x4x8x128x128 .f32) : Prop where
  q (c : Fin 32) (b : Fin 4) (h : Fin 8) (r d : Fin 128) : Q (ix5 c b h r d) = ((qr b h (c.val * 128 + r.val) d : ℝ) : EReal)
  k (c : Fin 32) (b : Fin 4) (h : Fin 8) (r d : Fin 128) : K (ix5 c b h r d) = kr b h (c.val * 128 + r.val) d
  v (c : Fin 32) (b : Fin 4) (h : Fin 8) (r d : Fin 128) : V (ix5 c b h r d) = ((vr b h (c.val * 128 + r.val) d : ℝ) : EReal)
  m (h : Fin 8) (r j : Fin 128) : m (ix3 h r j) = ((if j.val + strict ≤ r.val then decay (lam h) (r.val - j.val) else 0 : ℝ) : EReal)
  qd (h : Fin 8) (r : Fin 128) : qd (ix3 h r (0 : Fin 1)) = ((decay (lam h) (r.val + 1) : ℝ) : EReal)
  cd (h : Fin 8) : cd (ix3 h (0 : Fin 1) (0 : Fin 1)) = ((decay (lam h) 128 : ℝ) : EReal)
  kd (h : Fin 8) (r : Fin 128) : kd (ix3 h r (0 : Fin 1)) = ((decay (lam h) (127 - r.val) : ℝ) : EReal)
  st (b : Fin 4) (h : Fin 8) (d e : Fin 128) : mag (st (ix4 b h d e)) = state 128 128 (lam h) (km (kr b h)) (vr b h) n d e
  o (c : Fin 32) (hc : c.val < n) (b : Fin 4) (h : Fin 8) (r e : Fin 128) :
    mag (o (ix5 c b h r e)) = chunkOut 128 128 strict (lam h) (qr b h) (km (kr b h)) (vr b h) c.val r.val e

section step
variable {n strict : ℕ} {lam : Fin 8 → EReal} {qr : Fin 4 → Fin 8 → ℕ → Fin 128 → ℝ} {kr : Fin 4 → Fin 8 → ℕ → Fin 128 → EReal} {vr : Fin 4 → Fin 8 → ℕ → Fin 128 → ℝ}
  {Q K V : FVec Ideal S32x4x8x128x128 .f32} {m : FVec Ideal S8x128x128 .f32} {qd : FVec Ideal S8x128x1 .f32} {cd : FVec Ideal S8x1x1 .f32} {kd : FVec Ideal S8x128x1 .f32}
  {st : FVec Ideal S4x8x128x128 .f32} {o : FVec Ideal S32x4x8x128x128 .f32}
variable (H : Dir n strict lam qr kr vr Q K V m qd cd kd st o) (hn : n < 32)
include H hn

/-- A chunk's output. -/
theorem dO_real (b : Fin 4) (h : Fin 8) (r e : Fin 128) :
    mag (dO (dC Q n) (dC K n) (dC V n) m qd st (ix4 b h r e)) = chunkOut 128 128 strict (lam h) (qr b h) (km (kr b h)) (vr b h) n r.val e := by
  have hq := fun b h r d => (dC_at Q n hn b h r d).trans (H.q _ _ _ _ _)
  have hk := fun b h r d => (dC_at K n hn b h r d).trans (H.k _ _ _ _ _)
  have hv := fun b h r d => (dC_at V n hn b h r d).trans (H.v _ _ _ _ _)
  revert hq hk hv
  generalize dC Q n = Qn
  generalize dC K n = Kn
  generalize dC V n = Vn
  intro hq hk hv
  unfold dO
  pointwise
  simp only [hq, hk, hv, H.m, H.qd, ← EReal.coe_mul, mag_add, mag_sum, mag_mul_coe, mag_coe_mul, H.st]
  unfold chunkOut
  congr 1
  rw [sum_mul_coe]
  refine Finset.sum_congr rfl fun d _ => ?_
  rw [WithTop.coe_mul]
  ac_rfl

/-- The state after a chunk. -/
theorem dS_real (b : Fin 4) (h : Fin 8) (d e : Fin 128) :
    mag (dS (dC K n) (dC V n) cd kd st (ix4 b h d e)) = state 128 128 (lam h) (km (kr b h)) (vr b h) (n + 1) d e := by
  have hk := fun b h r d => (dC_at K n hn b h r d).trans (H.k _ _ _ _ _)
  have hv := fun b h r d => (dC_at V n hn b h r d).trans (H.v _ _ _ _ _)
  revert hk hv
  generalize dC K n = Kn
  generalize dC V n = Vn
  intro hk hv
  unfold dS
  pointwise
  simp only [hk, hv, H.cd, H.kd, mag_add, mag_sum, mag_mul_coe, H.st]
  rw [state]
  congr 1
  refine Finset.sum_congr rfl fun j _ => ?_
  have : (127 - (j.val : ℝ)) = (128 : ℕ) - 1 - (j.val : ℝ) := by push_cast; ring
  rw [this, WithTop.coe_mul]
  unfold km
  ac_rfl

/-- One trip keeps what a direction's arrays hold. -/
theorem dir_step : Dir (n + 1) strict lam qr kr vr Q K V m qd cd kd (dS (dC K n) (dC V n) cd kd st) (dP o (dO (dC Q n) (dC K n) (dC V n) m qd st) n) where
  q := H.q
  k := H.k
  v := H.v
  m := H.m
  qd := H.qd
  cd := H.cd
  kd := H.kd
  st := dS_real H hn
  o c hc b h r e := by
    by_cases hcn : c.val = n
    · obtain rfl : c = ⟨n, hn⟩ := Fin.ext hcn
      rw [dP_same _ _ _ hn, dO_real H hn]
    · rw [dP_other _ _ _ hn _ hcn, H.o c (by omega)]
end step

/-- A direction's arrays in a state. -/
def Fwd (n : ℕ) (lam : Fin 8 → EReal) (qr : Fin 4 → Fin 8 → ℕ → Fin 128 → ℝ) (kr : Fin 4 → Fin 8 → ℕ → Fin 128 → EReal) (vr : Fin 4 → Fin 8 → ℕ → Fin 128 → ℝ) (s : State Ideal) : Prop :=
  Dir n 0 lam qr kr vr s.main_v111_0 s.main_v111_1 s.main_v111_2 s.main_v111_6 s.main_v111_7 s.main_v111_8 s.main_v111_9 s.main_v111_15 s.main_v111_17

/-- The other direction's arrays in a state. -/
def Bwd (n : ℕ) (lam : Fin 8 → EReal) (qr : Fin 4 → Fin 8 → ℕ → Fin 128 → ℝ) (kr : Fin 4 → Fin 8 → ℕ → Fin 128 → EReal) (vr : Fin 4 → Fin 8 → ℕ → Fin 128 → ℝ) (s : State Ideal) : Prop :=
  Dir n 1 lam qr kr vr s.main_v111_3 s.main_v111_4 s.main_v111_5 s.main_v111_10 s.main_v111_11 s.main_v111_12 s.main_v111_13 s.main_v111_16 s.main_v111_18

theorem fwd_step {n : ℕ} {lam : Fin 8 → EReal} {qr : Fin 4 → Fin 8 → ℕ → Fin 128 → ℝ} {kr : Fin 4 → Fin 8 → ℕ → Fin 128 → EReal} {vr : Fin 4 → Fin 8 → ℕ → Fin 128 → ℝ} {s : State Ideal} (H : Fwd n lam qr kr vr s) (hn : n < 32) :
    Fwd (n + 1) lam qr kr vr (step n s) := dir_step H hn

theorem bwd_step {n : ℕ} {lam : Fin 8 → EReal} {qr : Fin 4 → Fin 8 → ℕ → Fin 128 → ℝ} {kr : Fin 4 → Fin 8 → ℕ → Fin 128 → EReal} {vr : Fin 4 → Fin 8 → ℕ → Fin 128 → ℝ} {s : State Ideal} (H : Bwd n lam qr kr vr s) (hn : n < 32) :
    Bwd (n + 1) lam qr kr vr (step n s) := dir_step H hn

end Cert.Proof.RetRef

end
-- ==== Proof.RetIter.lean ====
/-
  The retention reference's loop as an iterated state: the buffers a trip carries, gathered into a state, follow the trip's step.
-/
module

public import proofs.«01_k».proof.Proof.Gen.ReferenceIdeal.Step
public import proofs.«01_k».proof.Proof.Gen.ReferenceIdeal.Run

@[expose] public section

set_option maxRecDepth 65536
set_option maxHeartbeats 4000000

noncomputable section

namespace Cert.Proof.RetIter

open Idealize.ShloMosaic Idealize.ShloMosaic.TcCoe Cert.ReferenceIdeal Cert.ReferenceIdeal.Gen Cert.ReferenceIdeal.Value Cert.ReferenceIdeal.Step

variable {F : FTy → Type} [FloatOps F]

/-- The carried buffers' contents, gathered. -/
def stateOf (V : Valuation τ sig (Elt F)) : State F :=
  { main_v111_15 := V (Proc.devRef .tc main_v111_15), main_v111_16 := V (Proc.devRef .tc main_v111_16), main_v111_17 := V (Proc.devRef .tc main_v111_17),
    main_v111_18 := V (Proc.devRef .tc main_v111_18), main_v111_0 := V (Proc.devRef .tc main_v111_0), main_v111_1 := V (Proc.devRef .tc main_v111_1),
    main_v111_2 := V (Proc.devRef .tc main_v111_2), main_v111_3 := V (Proc.devRef .tc main_v111_3), main_v111_4 := V (Proc.devRef .tc main_v111_4),
    main_v111_5 := V (Proc.devRef .tc main_v111_5), main_v111_6 := V (Proc.devRef .tc main_v111_6), main_v111_7 := V (Proc.devRef .tc main_v111_7),
    main_v111_8 := V (Proc.devRef .tc main_v111_8), main_v111_9 := V (Proc.devRef .tc main_v111_9), main_v111_10 := V (Proc.devRef .tc main_v111_10),
    main_v111_11 := V (Proc.devRef .tc main_v111_11), main_v111_12 := V (Proc.devRef .tc main_v111_12), main_v111_13 := V (Proc.devRef .tc main_v111_13) }

/-- The contents at which the counter is `j`. -/
def At (j : ℕ) (V : Valuation τ sig (Elt F)) : Prop :=
  V (Proc.devRef .tc main_v111_14) = (constantI S_ 32 (BitVec.ofNat 32 j) : (⟨S_, .i32⟩ : BufTy).Contents (Elt F))

variable (V : Valuation τ sig (Elt F)) (j : ℕ) (h : At j V)
include h

theorem step15 : Value.step_main_v111_15 V = b53 j (stateOf V) := by
  have h' := h
  unfold At at h'
  unfold Value.step_main_v111_15 res_main_while0b_v140 res_main_while0b_v141
  rw [h']
  rfl

theorem step16 : Value.step_main_v111_16 V = b71 j (stateOf V) := by
  have h' := h
  unfold At at h'
  unfold Value.step_main_v111_16 res_main_while0b_v143 res_main_while0b_v144
  rw [h']
  rfl

theorem step17 : Value.step_main_v111_17 V = b77 j (stateOf V) := by
  have h' := h
  unfold At at h'
  unfold Value.step_main_v111_17 res_main_while0b_v139 res_main_while0b_v140 res_main_while0b_v141
  rw [h']
  rfl

theorem step18 : Value.step_main_v111_18 V = b83 j (stateOf V) := by
  have h' := h
  unfold At at h'
  unfold Value.step_main_v111_18 res_main_while0b_v142 res_main_while0b_v143 res_main_while0b_v144
  rw [h']
  rfl

/-- One trip's contents gather into the step of the gathered contents. -/
theorem stateOf_STEP : stateOf (STEP V) = step j (stateOf V) := by
  unfold stateOf
  rw [STEP_main_v111_0, STEP_main_v111_1, STEP_main_v111_2, STEP_main_v111_3, STEP_main_v111_4, STEP_main_v111_5, STEP_main_v111_6, STEP_main_v111_7,
    STEP_main_v111_8, STEP_main_v111_9, STEP_main_v111_10, STEP_main_v111_11, STEP_main_v111_12, STEP_main_v111_13, STEP_main_v111_15, STEP_main_v111_16,
    STEP_main_v111_17, STEP_main_v111_18, step15 V j h, step16 V j h, step17 V j h, step18 V j h]
  rfl

/-- One trip counts one up. -/
theorem at_STEP : At (j + 1) (STEP V) := by
  unfold At at h ⊢
  rw [STEP_main_v111_14, step_main_v111_14, h]
  funext x
  show BitVec.ofNat 32 j + 1#32 = BitVec.ofNat 32 (j + 1)
  rw [BitVec.ofNat_add]

omit h
/-- The state after `n` trips. -/
def iter (s : State F) : ℕ → State F
  | 0 => s
  | n + 1 => step n (iter s n)

/-- The contents after `n` trips gather into the state after `n` trips. -/
theorem iter_STEP (hV : At 0 V) : ∀ n, At n (STEP^[n] V) ∧ stateOf (STEP^[n] V) = iter (stateOf V) n
  | 0 => ⟨hV, rfl⟩
  | n + 1 => by
    obtain ⟨ha, hs⟩ := iter_STEP hV n
    rw [Function.iterate_succ_apply']
    exact ⟨at_STEP _ _ ha, by rw [stateOf_STEP _ _ ha, hs]; rfl⟩

section entry
open Idealize.ShloMosaic.Tactic Idealize.ShloMosaic.StableHlo
variable (m : (ℓ : Loc nD τ sig) → Buf (Elt F) ℓ) (c : Dev nD)

/-- The counter before the first trip. -/
theorem entry_at : At 0 (entryContents preI m c) := (ctr_entry m c).trans rfl

/-- The contents before the first trip gather into the arguments' initial state. -/
theorem entry_state : stateOf (entryContents preI m c)
    = init (m ((c.tc : Thread nD τ).loc main_arg0)) (m ((c.tc : Thread nD τ).loc main_arg1)) (m ((c.tc : Thread nD τ).loc main_arg2)) := by
  unfold stateOf
  simp only [entryContents, afterL_cons, afterL_nil]
  after_reads_simp
  rfl

/-- The first result, of the last state. -/
theorem out_res (V : Valuation τ sig (Elt F)) : out_main_v136 V = R_main_v136 (stateOf V) (V (Proc.devRef .tc main_arg2)) (V (Proc.devRef .tc main_arg3)) := rfl
end entry

end Cert.Proof.RetIter

end
-- ==== Proof.RetInit.lean ====
/-
  What the retention reference hands its first trip, and what it makes of the last one's outputs.
-/
module

public import proofs.«01_k».proof.Proof.RetRef
public import proofs.«01_k».proof.Proof.RetIter
public import proofs.«01_k».proof.Proof.RetTab

@[expose] public section

set_option maxHeartbeats 4000000

noncomputable section

namespace Cert.Proof.RetRef

open Idealize.ShloMosaic Cert.ReferenceIdeal Cert.ReferenceIdeal.Gen Cert.ReferenceIdeal.Step Cert.Proof.Ret

section init
variable (a0 a1 : FVec Ideal S8 .f32) (a2 : FVec Ideal S4x4x8x4096x128 .bf16)
variable (x0 x1 : Fin 8 → EReal) (qr : Fin 4 → Fin 8 → ℕ → Fin 128 → ℝ) (kr : Fin 4 → Fin 8 → ℕ → Fin 128 → EReal) (vr : Fin 4 → Fin 8 → ℕ → Fin 128 → ℝ)

/-- The arguments: the decays, the keys, and over the reals the queries and the values. -/
structure Args : Prop where
  x0 (h : Fin 8) : a0 (ix1 h) = x0 h
  x1 (h : Fin 8) : a1 (ix1 h) = x1 h
  q (b : Fin 4) (h : Fin 8) (s : Fin 4096) (d : Fin 128) : a2 (ix5 (0 : Fin 4) b h s d) = ((qr b h s.val d : ℝ) : EReal)
  k (b : Fin 4) (h : Fin 8) (s : Fin 4096) (d : Fin 128) : a2 (ix5 (1 : Fin 4) b h s d) = kr b h s.val d
  v (b : Fin 4) (h : Fin 8) (s : Fin 4096) (d : Fin 128) : a2 (ix5 (2 : Fin 4) b h s d) = ((vr b h s.val d : ℝ) : EReal)

variable {a0 a1 a2 x0 x1 qr kr vr}

/-- A position counted from the end. -/
theorem rev_val (c : Fin 32) (r : Fin 128) : (Fin.rev (⟨c.val * 128 + r.val, by omega⟩ : Fin 4096)).val = 4095 - (c.val * 128 + r.val) := by
  rw [Fin.val_rev]
  show 4096 - (c.val * 128 + r.val + 1) = _
  omega

/-- The queries' chunks. -/
theorem q_at (H : Args a0 a1 a2 x0 x1 qr kr vr) (c : Fin 32) (b : Fin 4) (h : Fin 8) (r d : Fin 128) :
    A_main_v95 (F := Ideal) a0 a1 a2 (ix5 c b h r d) = ((qr b h (c.val * 128 + r.val) d * qsc : ℝ) : EReal) := by
  unfold A_main_v95 A_main_v94 A_main_v10 A_main_v2 A_main_v1 A_main_v0 K_main_v9 K_main_cst
  pointwise
  rw [H.q, qsc_coe, EReal.coe_mul]

/-- The queries' chunks from the end. -/
theorem qf_at (H : Args a0 a1 a2 x0 x1 qr kr vr) (c : Fin 32) (b : Fin 4) (h : Fin 8) (r d : Fin 128) :
    A_main_v102 (F := Ideal) a0 a1 a2 (ix5 c b h r d) = ((fromEnd (qr b h) (c.val * 128 + r.val) d * qsc : ℝ) : EReal) := by
  unfold A_main_v102 A_main_v101 A_main_v100 A_main_v10 A_main_v2 A_main_v1 A_main_v0 K_main_v9 K_main_cst
  pointwise
  show a2 (ix5 (0 : Fin 4) b h (Fin.rev ⟨c.val * 128 + r.val, by omega⟩) d) * _ = _
  rw [H.q, qsc_coe, rev_val, ← EReal.coe_mul]
  rfl

/-- The keys' chunks. -/
theorem k_at (H : Args a0 a1 a2 x0 x1 qr kr vr) (c : Fin 32) (b : Fin 4) (h : Fin 8) (r d : Fin 128) :
    A_main_v97 (F := Ideal) a0 a1 a2 (ix5 c b h r d) = kr b h (c.val * 128 + r.val) d := by
  unfold A_main_v97 A_main_v96 A_main_v5 A_main_v4 A_main_v3
  pointwise
  rw [H.k]

/-- The keys' chunks from the end. -/
theorem kf_at (H : Args a0 a1 a2 x0 x1 qr kr vr) (c : Fin 32) (b : Fin 4) (h : Fin 8) (r d : Fin 128) :
    A_main_v105 (F := Ideal) a0 a1 a2 (ix5 c b h r d) = fromEnd (kr b h) (c.val * 128 + r.val) d := by
  unfold A_main_v105 A_main_v104 A_main_v103 A_main_v5 A_main_v4 A_main_v3
  pointwise
  show a2 (ix5 (1 : Fin 4) b h (Fin.rev ⟨c.val * 128 + r.val, by omega⟩) d) = _
  rw [H.k, rev_val]
  rfl

/-- The values' chunks. -/
theorem v_at (H : Args a0 a1 a2 x0 x1 qr kr vr) (c : Fin 32) (b : Fin 4) (h : Fin 8) (r d : Fin 128) :
    A_main_v99 (F := Ideal) a0 a1 a2 (ix5 c b h r d) = ((vr b h (c.val * 128 + r.val) d : ℝ) : EReal) := by
  unfold A_main_v99 A_main_v98 A_main_v8 A_main_v7 A_main_v6
  pointwise
  rw [H.v]

/-- The values' chunks from the end. -/
theorem vf_at (H : Args a0 a1 a2 x0 x1 qr kr vr) (c : Fin 32) (b : Fin 4) (h : Fin 8) (r d : Fin 128) :
    A_main_v108 (F := Ideal) a0 a1 a2 (ix5 c b h r d) = ((fromEnd (vr b h) (c.val * 128 + r.val) d : ℝ) : EReal) := by
  unfold A_main_v108 A_main_v107 A_main_v106 A_main_v8 A_main_v7 A_main_v6
  pointwise
  show a2 (ix5 (2 : Fin 4) b h (Fin.rev ⟨c.val * 128 + r.val, by omega⟩) d) = _
  rw [H.v, rev_val]
  rfl

/-- The difference of two positions within a chunk. -/
theorem diff_at (r j : Fin 128) : K_main_v18 (F := Ideal) (ix2 r j) = ((r.val - j.val : ℝ) : EReal) := by
  unfold K_main_v18 K_main_v17 K_main_v16 K_main_v15 K_main_v14 K_main_v13
  pointwise
  rw [f_nat _ (by omega), f_nat _ (by omega), EReal.coe_sub]

/-- A distance that is not below zero. -/
theorem max_of_le (z : ℝ) (hz : 0 ≤ z) : max (z : EReal) 0 = (z : EReal) := by
  rw [← EReal.coe_zero]; exact max_eq_left (EReal.coe_le_coe_iff.2 hz)

section tables
variable (b0 b1 : FVec Ideal S8 .f32) (x : EReal) (h : Fin 8) (e : b0 (ix1 h) = x)
include e

/-- The forward mask with its decays. -/
theorem m_at (r j : Fin 128) :
    A_main_v29 (F := Ideal) b0 b1 a2 (ix3 h r j) = ((if j.val + 0 ≤ r.val then decay x (r.val - j.val) else 0 : ℝ) : EReal) := by
  unfold A_main_v29 A_main_v28 A_main_v27 A_main_v25 A_main_v21 A_main_v12 A_main_v11 K_main_call0_v1 K_main_call0_v2 K_main_call0_v0 K_main_cst_2 K_main_v20 K_main_v19 K_main_cst_0 K_main_v26 K_main_v24 K_main_v23 K_main_v22 K_main_cst_1
  have hd := diff_at r j
  revert hd
  generalize K_main_v18 (F := Ideal) = D
  intro hd
  pointwise
  rw [hd, e]
  by_cases hj : j.val ≤ r.val
  · have h0 : (0 : ℝ) ≤ (r.val : ℝ) - j.val := by simpa using hj
    rw [if_pos hj, if_pos (by rw [← EReal.coe_zero]; exact EReal.coe_le_coe_iff.2 h0), max_of_le _ h0, exp_neg_decay _ _ (h0)]
  · have h0 : ¬ (0 : ℝ) ≤ (r.val : ℝ) - j.val := by simpa using hj
    rw [if_neg hj, if_neg (by rw [← EReal.coe_zero]; exact fun q => h0 (EReal.coe_le_coe_iff.1 q))]
    show Ideal.ofBits .f32 0x00000000#32 = _
    rw [EReal.coe_zero]; simp [Ideal.ofBits, Ideal.ieee]

/-- The rows' decays of the queries. -/
theorem qd_at (r : Fin 128) : A_main_v38 (F := Ideal) b0 b1 a2 (ix3 h r (0 : Fin 1)) = ((decay x (r.val + 1) : ℝ) : EReal) := by
  unfold A_main_v38 A_main_v37 A_main_v36 A_main_v34 A_main_v30 A_main_v12 A_main_v11 K_main_v35 K_main_v33 K_main_v32 K_main_v31 K_main_cst_3 K_main_v13
  pointwise
  rw [e, f_nat _ (by omega), ← EReal.coe_one, ← EReal.coe_add, exp_neg_decay _ _ (by positivity)]

/-- The decay of a whole chunk. -/
theorem cd_at : A_main_v51 (F := Ideal) b0 b1 a2 (ix3 h (0 : Fin 1) (0 : Fin 1)) = ((decay x 128 : ℝ) : EReal) := by
  unfold A_main_v51 A_main_v50 A_main_v49 A_main_v12 A_main_v11 K_main_v48 K_main_cst_5
  pointwise
  rw [e, c128, exp_neg_decay _ _ (by norm_num)]

/-- The rows' decays of the keys. -/
theorem kd_at (r : Fin 128) : A_main_v47 (F := Ideal) b0 b1 a2 (ix3 h r (0 : Fin 1)) = ((decay x (127 - r.val) : ℝ) : EReal) := by
  unfold A_main_v47 A_main_v46 A_main_v45 A_main_v43 A_main_v39 A_main_v12 A_main_v11 K_main_v44 K_main_v42 K_main_v41 K_main_v40 K_main_cst_4 K_main_v13
  pointwise
  rw [e, f_nat _ (by omega), c127, ← EReal.coe_sub, exp_neg_decay _ _ (by simpa only [Nat.cast_ofNat] using room 127 r.val (by omega))]
end tables

/-- The backward mask with its decays. -/
theorem mb_at (H : Args a0 a1 a2 x0 x1 qr kr vr) (h : Fin 8) (r j : Fin 128) :
    A_main_v70 (F := Ideal) a0 a1 a2 (ix3 h r j) = ((if j.val + 1 ≤ r.val then decay (x1 h) (r.val - j.val) else 0 : ℝ) : EReal) := by
  unfold A_main_v70 A_main_v69 A_main_v68 A_main_v66 A_main_v62 A_main_v53 A_main_v52 K_main_call1_v1 K_main_call1_v2 K_main_call1_v0 K_main_cst_8 K_main_v61 K_main_v60 K_main_cst_6 K_main_v67 K_main_v65 K_main_v64 K_main_v63 K_main_cst_7
  have hd : K_main_v59 (F := Ideal) (ix2 r j) = _ := diff_at r j
  revert hd
  generalize K_main_v59 (F := Ideal) = D
  intro hd
  pointwise
  rw [hd, H.x1]
  by_cases hj : j.val + 1 ≤ r.val
  · have h0 : (0 : ℝ) < (r.val : ℝ) - j.val := by simpa using hj
    rw [if_pos hj, if_pos (by rw [← EReal.coe_zero]; exact EReal.coe_lt_coe_iff.2 h0), max_of_le _ h0.le, exp_neg_decay _ _ (h0.le)]
  · have h0 : ¬ (0 : ℝ) < (r.val : ℝ) - j.val := by simpa using hj
    rw [if_neg hj, if_neg (by rw [← EReal.coe_zero]; exact fun q => h0 (EReal.coe_lt_coe_iff.1 q))]
    show Ideal.ofBits .f32 0x00000000#32 = _
    rw [EReal.coe_zero]; simp [Ideal.ofBits, Ideal.ieee]

theorem z_at (b : Fin 4) (h : Fin 8) (d e : Fin 128) : K_main_v93 (F := Ideal) (ix4 b h d e) = 0 := by
  unfold K_main_v93 K_main_cst_12
  pointwise

/-- The forward arrays before the first trip. -/
theorem fwd_init (H : Args a0 a1 a2 x0 x1 qr kr vr) :
    Fwd 0 x0 (fun b h s d => qr b h s d * qsc) kr vr (init (F := Ideal) a0 a1 a2) where
  q := q_at H
  k := k_at H
  v := v_at H
  m h r j := m_at (a2 := a2) a0 a1 _ h (H.x0 h) r j
  qd h r := qd_at (a2 := a2) a0 a1 _ h (H.x0 h) r
  cd h := cd_at (a2 := a2) a0 a1 _ h (H.x0 h)
  kd h r := kd_at (a2 := a2) a0 a1 _ h (H.x0 h) r
  st b h d e := (congrArg mag (z_at b h d e)).trans (by rw [state, mag_zero])
  o c hc := absurd hc (Nat.not_lt_zero _)

/-- The backward arrays before the first trip. -/
theorem bwd_init (H : Args a0 a1 a2 x0 x1 qr kr vr) :
    Bwd 0 x1 (fun b h s d => fromEnd (qr b h) s d * qsc) (fun b h => fromEnd (kr b h)) (fun b h => fromEnd (vr b h)) (init (F := Ideal) a0 a1 a2) where
  q := qf_at H
  k := kf_at H
  v := vf_at H
  m := mb_at H
  qd h r := qd_at (a2 := a2) a1 a0 _ h (H.x1 h) r
  cd h := cd_at (a2 := a2) a1 a0 _ h (H.x1 h)
  kd h r := kd_at (a2 := a2) a1 a0 _ h (H.x1 h) r
  st b h d e := (congrArg mag (z_at b h d e)).trans (by rw [state, mag_zero])
  o c hc := absurd hc (Nat.not_lt_zero _)

/-- The forward arrays after `n` trips. -/
theorem fwd_iter (H : Args a0 a1 a2 x0 x1 qr kr vr) : ∀ n, n ≤ 32 →
    Fwd n x0 (fun b h s d => qr b h s d * qsc) kr vr (RetIter.iter (init (F := Ideal) a0 a1 a2) n)
  | 0, _ => fwd_init H
  | n + 1, h => fwd_step (fwd_iter H n (by omega)) h

/-- The backward arrays after `n` trips. -/
theorem bwd_iter (H : Args a0 a1 a2 x0 x1 qr kr vr) : ∀ n, n ≤ 32 →
    Bwd n x1 (fun b h s d => fromEnd (qr b h) s d * qsc) (fun b h => fromEnd (kr b h)) (fun b h => fromEnd (vr b h)) (RetIter.iter (init (F := Ideal) a0 a1 a2) n)
  | 0, _ => bwd_init H
  | n + 1, h => bwd_step (bwd_iter H n (by omega)) h

end init

end Cert.Proof.RetRef

end
-- ==== Proof.RetFold.lean ====
/-
  What a grid point of the retention leaves: the tables of its head, its output, and its rows of the two weights.
-/
module

public import proofs.«01_k».proof.Proof.RetBlk
public import proofs.«01_k».proof.Proof.RetInit

@[expose] public section

set_option maxHeartbeats 4000000

noncomputable section

namespace Cert.Proof.Ret

open Idealize.ShloMosaic Idealize.ShloMosaic.TcCoe Idealize.SL.Sem Cert.KernelIdeal Cert.KernelIdeal.Gen

section output
variable (m16 : Memref sig .tc .vmem S16x128x256 .f32) (m17 : Memref sig .tc .vmem S16x128x256 .bf16)
variable {Q K V : Fin 16 → Vec Ideal S1x1x1x256x128 .bf16} {l l' : Elt Ideal .f32} {intra : Vec Ideal S256x256 .f32} {t0 t1 t2 t3 : Vec Ideal S1x256x128 .f32}
variable {qr : ℕ → Fin 128 → ℝ} {kr : ℕ → Fin 128 → EReal} {vr : ℕ → Fin 128 → ℝ} {x x' : EReal}

/-- The output's pieces at an entry: the retention at its position, normalised and gated. -/
theorem outL_fin (h : Reads Q K V l l' intra t0 t1 t2 t3 qr kr vr x x') (G : Fin 16 → Vec Ideal S1x1x1x256x128 .bf16) (rw : Vec Ideal S1x1x128 .f32) (s : Fin 4096) (e : Fin 128) :
    View.canon (outL m16 m17 Q K V G l l' intra t0 t1 t2 t3 rw) (ix4 (0 : Fin 1) (0 : Fin 1) s e : S1x1x4096x128.Idx)
      = fin (fun d => back (ret qr kr vr x x' s.val d)) (fun d => rw (ix3 (0 : Fin 1) (0 : Fin 1) d))
          (fun d => G ⟨s.val / 256, by omega⟩ (ix5 (0 : Fin 1) (0 : Fin 1) (0 : Fin 1) (⟨s.val % 256, by omega⟩ : Fin 256) d)) e := by
  have hs : s = (⟨256 * (s.val / 256) + s.val % 256, by omega⟩ : Fin 4096) := Fin.ext (by show s.val = 256 * (s.val / 256) + s.val % 256; omega)
  refine (congrArg (fun y : Fin 4096 => View.canon (outL m16 m17 Q K V G l l' intra t0 t1 t2 t3 rw) (ix4 (0 : Fin 1) (0 : Fin 1) y e : S1x1x4096x128.Idx)) hs).trans ?_
  refine (outL_at m16 m17 Q K V G l l' intra t0 t1 t2 t3 rw ⟨s.val / 256, by omega⟩ ⟨s.val % 256, by omega⟩ e).trans ?_
  refine (outC_fin _ _ _ _ _ _ _ _ _ _ _).trans ?_
  refine fin_back _ _ _ _ (fun d => (orow_ret m16 m17 h _ _ d).trans ?_) e
  have hv : s.val / 256 * 256 + s.val % 256 = s.val := by omega
  show ret qr kr vr x x' (s.val / 256 * 256 + s.val % 256) d = _
  rw [hv]
end output

variable {a0 a1 : FVec Ideal S8 .f32} {a2 : FVec Ideal S4x4x8x4096x128 .bf16} {x0 x1 : Fin 8 → EReal} {qr : Fin 4 → Fin 8 → ℕ → Fin 128 → ℝ} {kr : Fin 4 → Fin 8 → ℕ → Fin 128 → EReal} {vr : Fin 4 → Fin 8 → ℕ → Fin 128 → ℝ}

/-- Chunks and tables that hold a head's arguments read its sequences. -/
theorem reads_of (H : RetRef.Args a0 a1 a2 x0 x1 qr kr vr) (b : Fin 4) (h : Fin 8)
    {Q K V : Fin 16 → Vec Ideal S1x1x1x256x128 .bf16} {l l' : Elt Ideal .f32} {intra : Vec Ideal S256x256 .f32} {t0 t1 t2 t3 : Vec Ideal S1x256x128 .f32}
    (hl : l = a0 (ix1 h)) (hl' : l' = a1 (ix1 h))
    (hq : ∀ (c : Fin 16) (r : Fin 256) (d : Fin 128), Q c (ix5 (0 : Fin 1) (0 : Fin 1) (0 : Fin 1) r d) = a2 (ix5 (0 : Fin 4) b h (⟨c.val * 256 + r.val, by omega⟩ : Fin 4096) d))
    (hk : ∀ (c : Fin 16) (r : Fin 256) (d : Fin 128), K c (ix5 (0 : Fin 1) (0 : Fin 1) (0 : Fin 1) r d) = a2 (ix5 (1 : Fin 4) b h (⟨c.val * 256 + r.val, by omega⟩ : Fin 4096) d))
    (hv : ∀ (c : Fin 16) (r : Fin 256) (d : Fin 128), V c (ix5 (0 : Fin 1) (0 : Fin 1) (0 : Fin 1) r d) = a2 (ix5 (2 : Fin 4) b h (⟨c.val * 256 + r.val, by omega⟩ : Fin 4096) d))
    (h0 : ∀ (r : Fin 256) (d : Fin 128), t0 (ix3 (0 : Fin 1) r d) = View.canon (tabL (F := Ideal) (a0 (ix1 h)) (a1 (ix1 h))) (ix3 (0 : Fin 4) r d : S4x256x128.Idx))
    (h1 : ∀ (r : Fin 256) (d : Fin 128), t1 (ix3 (0 : Fin 1) r d) = View.canon (tabL (F := Ideal) (a0 (ix1 h)) (a1 (ix1 h))) (ix3 (1 : Fin 4) r d : S4x256x128.Idx))
    (h2 : ∀ (r : Fin 256) (d : Fin 128), t2 (ix3 (0 : Fin 1) r d) = View.canon (tabL (F := Ideal) (a0 (ix1 h)) (a1 (ix1 h))) (ix3 (2 : Fin 4) r d : S4x256x128.Idx))
    (h3 : ∀ (r : Fin 256) (d : Fin 128), t3 (ix3 (0 : Fin 1) r d) = View.canon (tabL (F := Ideal) (a0 (ix1 h)) (a1 (ix1 h))) (ix3 (3 : Fin 4) r d : S4x256x128.Idx))
    (hi : ∀ (r j : Fin 256), intra (ix2 r j) = View.canon (intraL (F := Ideal) (a0 (ix1 h)) (a1 (ix1 h))) (ix2 r j : S256x256.Idx)) :
    Reads Q K V l l' intra t0 t1 t2 t3 (qr b h) (kr b h) (vr b h) (x0 h) (x1 h) where
  l := hl.trans (H.x0 h)
  l' := hl'.trans (H.x1 h)
  q c r d := (hq c r d).trans (H.q b h _ d)
  k c r d := (hk c r d).trans (H.k b h _ d)
  v c r d := (hv c r d).trans (H.v b h _ d)
  t0 r d := (h0 r d).trans ((tabL_at _ _ r d).1.trans (tab0 _ _ (H.x0 h) r d))
  t1 r d := (h1 r d).trans ((tabL_at _ _ r d).2.1.trans (tab1 _ _ (H.x1 h) r d))
  t2 r d := (h2 r d).trans ((tabL_at _ _ r d).2.2.1.trans (tab2 _ _ (H.x0 h) r d))
  t3 r d := (h3 r d).trans ((tabL_at _ _ r d).2.2.2.trans (tab3 _ _ (H.x1 h) r d))
  i r j := (hi r j).trans ((intraL_at _ _ r j).trans (tabI _ _ _ _ (H.x0 h) (H.x1 h) r j))

variable (m : (ℓ : Loc nD τ sig) → Buf (Elt Ideal) ℓ) (c : Dev nD)

/-- The forward decay of a point's head. -/
abbrev decF (t : Fin cfg0.N) : Elt Ideal .f32 := m ((c : Thread nD τ).loc main_arg0) (ix1 (hd t))
/-- The backward decay of a point's head. -/
abbrev decB (t : Fin cfg0.N) : Elt Ideal .f32 := m ((c : Thread nD τ).loc main_arg1) (ix1 (hd t))

/-- A point that starts a head fills its tables. -/
theorem scr_start (t : Fin cfg0.N) (h0 : t.val % 4 = 0) :
    (outsAt0 m c t.val t.isLt).2.2.2.1 = View.canon (intraL (decF m c t) (decB m c t))
    ∧ (outsAt0 m c t.val t.isLt).2.2.2.2 = View.canon (tabL (decF m c t) (decB m c t)) := by
  have h := outsAt0_A m c t h0
  have el : ∀ a ha, rdL (grid0.coords t) a ha (iblk m c 0 t) = decF m c t := fun a ha => (rdL_at t a ha _).trans (blk_0 m c t _)
  have el' : ∀ a ha, rdL (grid0.coords t) a ha (iblk m c 1 t) = decB m c t := fun a ha => (rdL_at t a ha _).trans (blk_1 m c t _)
  refine ⟨(congrArg (fun x => x.2.2.2.1) h).trans ?_, (congrArg (fun x => x.2.2.2.2) h).trans ?_⟩
  · dsimp only
    unfold sout0_A_0
    rw [View.read_writes_junk_eq_canon, intraA_eq, el, el']
  · dsimp only
    unfold sout0_A_1
    rw [View.read_writes_junk_eq_canon, tabA_eq, el, el']

/-- Another point keeps them. -/
theorem scr_keep (t : Fin cfg0.N) (h0 : ¬t.val % 4 = 0) :
    (outsAt0 m c t.val t.isLt).2.2.2.1 = (outsAt0 m c (t.val - 1) (Nat.lt_of_le_of_lt (Nat.sub_le _ _) t.isLt)).2.2.2.1
    ∧ (outsAt0 m c t.val t.isLt).2.2.2.2 = (outsAt0 m c (t.val - 1) (Nat.lt_of_le_of_lt (Nat.sub_le _ _) t.isLt)).2.2.2.2 := by
  have h := outsAt0_B m c t h0
  exact ⟨congrArg (fun x => x.2.2.2.1) h, congrArg (fun x => x.2.2.2.2) h⟩

/-- After a point the scratch holds the tables of the point's head. -/
theorem scr : ∀ (n : ℕ) (hn : n < cfg0.N),
    (outsAt0 m c n hn).2.2.2.1 = View.canon (intraL (decF m c ⟨n, hn⟩) (decB m c ⟨n, hn⟩))
    ∧ (outsAt0 m c n hn).2.2.2.2 = View.canon (tabL (decF m c ⟨n, hn⟩) (decB m c ⟨n, hn⟩))
  | 0, hn => scr_start m c ⟨0, hn⟩ rfl
  | n + 1, hn => by
    by_cases h0 : (n + 1) % 4 = 0
    · exact scr_start m c ⟨n + 1, hn⟩ h0
    · obtain ⟨i1, i2⟩ := scr n (Nat.lt_of_succ_lt hn)
      obtain ⟨k1, k2⟩ := scr_keep m c ⟨n + 1, hn⟩ h0
      have hh : hd ⟨n, Nat.lt_of_succ_lt hn⟩ = hd ⟨n + 1, hn⟩ := Fin.ext (by show n / 4 = (n + 1) / 4; omega)
      refine ⟨(k1.trans i1).trans ?_, (k2.trans i2).trans ?_⟩
      · unfold decF decB; rw [hh]
      · unfold decF decB; rw [hh]

/-- The group norm's weights, read whole. -/
theorem rdW_at (a : Memref sig .tc .vmem S1x1x128 .f32) (ha : a.IsWhole) (x : Vec Ideal S1x1x128 .f32) (d : Fin 128) :
    View.readAt (Elt Ideal) a.view (Rect.unit (s := S1x1x128) ![0, 0, 0] S1x1x128.size inb_S1x1x128_S1x1x128_0_0_0).toLoadRect (ha.unread x) (ix3 (0 : Fin 1) (0 : Fin 1) d)
      = x (ix3 (0 : Fin 1) (0 : Fin 1) d) := by
  refine (congrFun (View.readAt_eq_ld a.view _ _) _).trans ?_
  rw [ha.read_unread]
  refine congrArg x (funext fun b => Fin.ext ?_)
  match b with
  | ⟨0, _⟩ => rfl
  | ⟨1, _⟩ => rfl
  | ⟨2, _⟩ => show 0 + 1 * d.val = d.val; omega

/-- The table within a chunk, read whole. -/
theorem rdU_at (a : Memref sig .tc .vmem S256x256 .f32) (ha : a.IsWhole) (x : Vec Ideal S256x256 .f32) (r j : Fin 256) :
    View.readAt (Elt Ideal) a.view (Rect.unit (s := S256x256) ![0, 0] S256x256.size inb_S256x256_S256x256_0_0).toLoadRect (ha.unread x) (ix2 r j)
      = x (ix2 r j) := by
  refine (congrFun (View.readAt_eq_ld a.view _ _) _).trans ?_
  rw [ha.read_unread]
  refine congrArg x (funext fun b => Fin.ext ?_)
  match b with
  | ⟨0, _⟩ => show 0 + 1 * r.val = r.val; omega
  | ⟨1, _⟩ => show 0 + 1 * j.val = j.val; omega

/-- The table within a chunk, read back after it is filled. -/
theorem rdUA_at (a : Memref sig .tc .vmem S256x256 .f32) (l l' : Elt Ideal .f32) (r j : Fin 256) :
    a.view.readCov (intraL l l') (Rect.unit (s := S256x256) ![0, 0] S256x256.size inb_S256x256_S256x256_0_0).toLoadRect (ix2 r j)
      = View.canon (intraL l l') (ix2 r j : S256x256.Idx) := by
  rw [View.readCov_eq_canon']
  refine congrArg (View.canon (intraL l l')) (funext fun b => Fin.ext ?_)
  match b with
  | ⟨0, _⟩ => show 0 + 1 * r.val = r.val; omega
  | ⟨1, _⟩ => show 0 + 1 * j.val = j.val; omega

variable (H : RetRef.Args (m ((c : Thread nD τ).loc main_arg0)) (m ((c : Thread nD τ).loc main_arg1)) (m ((c : Thread nD τ).loc main_arg2)) x0 x1 qr kr vr)
include H

/-- WHAT A POINT LEAVES of the first result: its head's and batch's retention, normalised and gated. -/
theorem out_at (t : Fin cfg0.N) (s : Fin 4096) (e : Fin 128) :
    (outsAt0 m c t.val t.isLt).1 (ix4 (0 : Fin 1) (0 : Fin 1) s e)
      = fin (fun d => back (ret (qr (bt t) (hd t)) (kr (bt t) (hd t)) (vr (bt t) (hd t)) (x0 (hd t)) (x1 (hd t)) s.val d))
          (fun d => m ((c : Thread nD τ).loc main_arg3) (ix1 (⟨(hd t).val * 128 + d.val, by omega⟩ : Fin 1024)))
          (fun d => m ((c : Thread nD τ).loc main_arg2) (ix5 (3 : Fin 4) (bt t) (hd t) s d)) e := by
  have hg : ∀ d, rdI (ms0_5 t) (hs0_5 t) (iblk m c 5 t) ⟨s.val / 256, by omega⟩ (ix5 (0 : Fin 1) (0 : Fin 1) (0 : Fin 1) (⟨s.val % 256, by omega⟩ : Fin 256) d)
      = m ((c : Thread nD τ).loc main_arg2) (ix5 (3 : Fin 4) (bt t) (hd t) s d) := fun d => by
    refine (rdI_at _ _ _ _ _ _).trans ((blk_5 m c t _ d).trans ?_)
    congr 2
    apply Fin.ext
    show s.val / 256 * 256 + s.val % 256 = s.val
    omega
  have hw : ∀ d : Fin 128, _ = m ((c : Thread nD τ).loc main_arg3) (ix1 (⟨(hd t).val * 128 + d.val, by omega⟩ : Fin 1024)) := fun d =>
    (rdW_at (ms0_6 t) (hs0_6 t) (iblk m c 6 t) d).trans (blk_6 m c t d)
  have el : ∀ a ha, rdL (grid0.coords t) a ha (iblk m c 0 t) = decF m c t := fun a ha => (rdL_at t a ha _).trans (blk_0 m c t _)
  have el' : ∀ a ha, rdL (grid0.coords t) a ha (iblk m c 1 t) = decB m c t := fun a ha => (rdL_at t a ha _).trans (blk_1 m c t _)
  by_cases h0 : t.val % 4 = 0
  · rw [outsAt0_A m c t h0]
    dsimp only
    unfold out0_A_9
    rw [View.read_writes_junk_eq_canon, outA_eq, el, el']
    refine (outL_fin _ _ (reads_of H (bt t) (hd t) rfl rfl (fun _ _ _ => (rdI_at _ _ _ _ _ _).trans (blk_2 m c t _ _)) (fun _ _ _ => (rdI_at _ _ _ _ _ _).trans (blk_3 m c t _ _))
      (fun _ _ _ => (rdI_at _ _ _ _ _ _).trans (blk_4 m c t _ _)) (rdTA_at _ _ _ 0) (rdTA_at _ _ _ 1) (rdTA_at _ _ _ 2) (rdTA_at _ _ _ 3) (rdUA_at _ _ _)) _ _ s e).trans ?_
    exact congrArg₂ (fun w g => fin _ w g e) (funext hw) (funext hg)
  · obtain ⟨e0, e1⟩ := scr m c t.val t.isLt
    obtain ⟨k0, k1⟩ := scr_keep m c t h0
    rw [k0] at e0
    rw [k1] at e1
    rw [outsAt0_B m c t h0]
    dsimp only
    unfold out0_B_9
    rw [View.read_writes_junk_eq_canon, outB_eq, el, el', e0, e1]
    refine (outL_fin _ _ (reads_of H (bt t) (hd t) rfl rfl (fun _ _ _ => (rdI_at _ _ _ _ _ _).trans (blk_2 m c t _ _)) (fun _ _ _ => (rdI_at _ _ _ _ _ _).trans (blk_3 m c t _ _))
      (fun _ _ _ => (rdI_at _ _ _ _ _ _).trans (blk_4 m c t _ _)) (rdT_at _ _ _ 0) (rdT_at _ _ _ 1) (rdT_at _ _ _ 2) (rdT_at _ _ _ 3) (rdU_at _ _ _)) _ _ s e).trans ?_
    exact congrArg₂ (fun w g => fin _ w g e) (funext hw) (funext hg)

omit H
/-- What a point leaves of the second result: its rows of the output projection's weight. -/
theorem outw_at (t : Fin cfg0.N) (r : Fin 64) (n : Fin 2048) :
    (outsAt0 m c t.val t.isLt).2.1 (ix2 r n) = (iblk m c 7 t : Vec Ideal S64x2048 .f32) (ix2 r n) := by
  have hz : (![0, 0] : Fin 2 → ℕ) = fun _ => 0 := funext fun a => by fin_cases a <;> rfl
  by_cases h0 : t.val % 4 = 0
  · rw [outsAt0_A m c t h0]
    dsimp only
    unfold out0_A_10
    rw [View.read_writes_junk_eq_canon, outwPieceA_eq, View.canon_unit_zero hz]
    refine (congrFun (View.readAt_eq_ld _ _ _) _).trans ?_
    rw [(hs0_7 t).read_unread, View.ld_unit_zero hz]
  · rw [outsAt0_B m c t h0]
    dsimp only
    unfold out0_B_10
    rw [View.read_writes_junk_eq_canon, outwPieceB_eq, View.canon_unit_zero hz]
    refine (congrFun (View.readAt_eq_ld _ _ _) _).trans ?_
    rw [(hs0_7 t).read_unread, View.ld_unit_zero hz]

/-- What a point leaves of the third result: its rows of the down projection's weight. -/
theorem down_at (t : Fin cfg0.N) (r : Fin 176) (n : Fin 2048) :
    (outsAt0 m c t.val t.isLt).2.2.1 (ix2 r n) = (iblk m c 8 t : Vec Ideal S176x2048 .f32) (ix2 r n) := by
  have hz : (![0, 0] : Fin 2 → ℕ) = fun _ => 0 := funext fun a => by fin_cases a <;> rfl
  by_cases h0 : t.val % 4 = 0
  · rw [outsAt0_A m c t h0]
    dsimp only
    unfold out0_A_11
    rw [View.read_writes_junk_eq_canon, downPieceA_eq, View.canon_unit_zero hz]
    refine (congrFun (View.readAt_eq_ld _ _ _) _).trans ?_
    rw [(hs0_8 t).read_unread, View.ld_unit_zero hz]
  · rw [outsAt0_B m c t h0]
    dsimp only
    unfold out0_B_11
    rw [View.read_writes_junk_eq_canon, downPieceB_eq, View.canon_unit_zero hz]
    refine (congrFun (View.readAt_eq_ld _ _ _) _).trans ?_
    rw [(hs0_8 t).read_unread, View.ld_unit_zero hz]

end Cert.Proof.Ret

end
-- ==== Proof.RetOut.lean ====
/-
  What the retention reference makes of its last trip's outputs.
-/
module

public import proofs.«01_k».proof.Proof.RetInit

@[expose] public section

set_option maxHeartbeats 4000000

noncomputable section

namespace Cert.Proof.RetRef

open Idealize.ShloMosaic Cert.ReferenceIdeal Cert.ReferenceIdeal.Gen Cert.ReferenceIdeal.Step Cert.Proof.Ret

/-- The sum of both directions' outputs, the second read from its end. -/
def osum (X Y : FVec Ideal S32x4x8x128x128 .f32) : FVec Ideal S4x8x4096x128 .f32 :=
  addf (shapeCast S4x8x4096x128 (transpose S4x8x32x128x128 [1, 2, 0, 3, 4] X transposes_S32x4x8x128x128_S4x8x32x128x128_1_2_0_3_4) shapeCasts_S4x8x32x128x128_S4x8x4096x128)
    (Host.reverse [2] (shapeCast S4x8x4096x128 (transpose S4x8x32x128x128 [1, 2, 0, 3, 4] Y transposes_S32x4x8x128x128_S4x8x32x128x128_1_2_0_3_4) shapeCasts_S4x8x32x128x128_S4x8x4096x128))

theorem osum_at (X Y : FVec Ideal S32x4x8x128x128 .f32) (b : Fin 4) (h : Fin 8) (s : Fin 4096) (e : Fin 128) :
    osum X Y (ix4 b h s e) = X (ix5 (⟨s.val / 128, by omega⟩ : Fin 32) b h (⟨s.val % 128, by omega⟩ : Fin 128) e)
      + Y (ix5 (⟨(4095 - s.val) / 128, by omega⟩ : Fin 32) b h (⟨(4095 - s.val) % 128, by omega⟩ : Fin 128) e) := by
  unfold osum
  pointwise
  have hr : (Fin.rev s).val = 4095 - s.val := by rw [Fin.val_rev]; omega
  congr 1
  show Y (ix5 (⟨(Fin.rev s).val / 128, _⟩ : Fin 32) b h (⟨(Fin.rev s).val % 128, _⟩ : Fin 128) e) = _
  simp only [hr]

/-- The sum of both directions' outputs is the retention. -/
theorem osum_ret (x0 x1 : Fin 8 → EReal) (qr : Fin 4 → Fin 8 → ℕ → Fin 128 → ℝ) (kr : Fin 4 → Fin 8 → ℕ → Fin 128 → EReal) (vr : Fin 4 → Fin 8 → ℕ → Fin 128 → ℝ) (X Y : FVec Ideal S32x4x8x128x128 .f32)
    (hf : ∀ (c : Fin 32) (b : Fin 4) (h : Fin 8) (r e : Fin 128), mag (X (ix5 c b h r e)) = chunkOut 128 128 0 (x0 h) (fun s d => qr b h s d * qsc) (km (kr b h)) (vr b h) c.val r.val e)
    (hb : ∀ (c : Fin 32) (b : Fin 4) (h : Fin 8) (r e : Fin 128), mag (Y (ix5 c b h r e)) = chunkOut 128 128 1 (x1 h) (fun s d => fromEnd (qr b h) s d * qsc) (km (fromEnd (kr b h))) (fromEnd (vr b h)) c.val r.val e)
    (b : Fin 4) (h : Fin 8) (s : Fin 4096) (e : Fin 128) :
    mag (osum X Y (ix4 b h s e)) = ret (qr b h) (kr b h) (vr b h) (x0 h) (x1 h) s.val e := by
  rw [osum_at, mag_add, hf, hb]
  rw [chunkOut_eq 128 128 0 (by omega) _ _ _ _ _ _ (Nat.mod_lt _ (by omega)), chunkOut_eq 128 128 1 le_rfl _ _ _ _ _ _ (Nat.mod_lt _ (by omega)),
    fullOut_smul, fullOut_smul]
  unfold ret
  rw [show s.val / 128 * 128 + s.val % 128 = s.val by omega, show (4095 - s.val) / 128 * 128 + (4095 - s.val) % 128 = 4095 - s.val by omega, add_mul_coe]

/-- The normalised, gated output, of the sum of both directions' outputs. -/
def resV (o : FVec Ideal S4x8x4096x128 .f32) (a2 : FVec Ideal S4x4x8x4096x128 .bf16) (a3 : FVec Ideal S1024 .f32) : FVec Ideal S4x8x4096x128 .bf16 :=
  truncf .bf16 (mulf (mulf (mulf o (broadcastInDim S4x8x4096x128 ![0, 1, 2, 3] bcast_S4x8x4096x1_S4x8x4096x128_0_1_2_3 (Host.rsqrt (addf (Host.divf (broadcastInDim S4x8x4096x1 ![0, 1, 2] bcast_S4x8x4096_S4x8x4096x1_0_1_2 (Host.reduceAdd (mulf o o) (constant S_ .f32 0x00000000#32) reducesTo_S4x8x4096x128_S4x8x4096_d3 h_S_)) (broadcastInDim S4x8x4096x1 ![] bcast_S_S4x8x4096x1 (constant S_ .f32 0x43000000#32))) (broadcastInDim S4x8x4096x1 ![] bcast_S_S4x8x4096x1 (constant S_ .f32 0x358637BD#32)))))) (broadcastInDim S4x8x4096x128 ![0, 1, 2, 3] bcast_S1x8x1x128_S4x8x4096x128_0_1_2_3 (shapeCast S1x8x1x128 a3 shapeCasts_S1024_S1x8x1x128))) (mulf (extf .f32 (shapeCast S4x8x4096x128 (extractStridedSlice S1x4x8x4096x128 ![3, 0, 0, 0, 0] a2 slices_S4x4x8x4096x128_S1x4x8x4096x128_3_0_0_0_0) shapeCasts_S1x4x8x4096x128_S4x8x4096x128) bitsLt_bf16_f32) (Host.divf (broadcastInDim S4x8x4096x128 ![] bcast_S_S4x8x4096x128 (constant S_ .f32 0x3F800000#32)) (addf (broadcastInDim S4x8x4096x128 ![] bcast_S_S4x8x4096x128 (constant S_ .f32 0x3F800000#32)) (Host.exp (Host.negf (extf .f32 (shapeCast S4x8x4096x128 (extractStridedSlice S1x4x8x4096x128 ![3, 0, 0, 0, 0] a2 slices_S4x4x8x4096x128_S1x4x8x4096x128_3_0_0_0_0) shapeCasts_S1x4x8x4096x128_S4x8x4096x128) bitsLt_bf16_f32))))))) bitsLt_bf16_f32

theorem res_eq (S : State Ideal) (a2 : FVec Ideal S4x4x8x4096x128 .bf16) (a3 : FVec Ideal S1024 .f32) :
    R_main_v136 S a2 a3 = resV (osum S.main_v111_17 S.main_v111_18) a2 a3 := rfl

theorem resV_fin (o : FVec Ideal S4x8x4096x128 .f32) (a2 : FVec Ideal S4x4x8x4096x128 .bf16) (a3 : FVec Ideal S1024 .f32) (b : Fin 4) (h : Fin 8) (s : Fin 4096) (e : Fin 128) :
    resV o a2 a3 (ix4 b h s e)
      = fin (fun d => o (ix4 b h s d)) (fun d => a3 (ix1 (⟨h.val * 128 + d.val, by omega⟩ : Fin 1024))) (fun d => a2 (ix5 (3 : Fin 4) b h s d)) e := by
  unfold resV fin
  pointwise
  rw [zero_sub]

end Cert.Proof.RetRef

end
-- ==== Proof.RetRun.lean ====
/-
  The retention's algebraic claim: from finite queries and values, the kernel's run and the reference's end at the
  same closed form. The weights are handed through by both.
-/
module

public import proofs.«01_k».proof.Defs
public import proofs.«01_k».proof.Proof.RetFold
public import proofs.«01_k».proof.Proof.RetOut
public import Idealize.ShloMosaic.Lib.ReduceAll
public import proofs.«01_k».proof.Proof.Gen.Pre_finite_inputs

@[expose] public section

set_option maxHeartbeats 4000000

noncomputable section

namespace Cert.Proof.Ret

open Idealize.ShloMosaic Idealize.ShloMosaic.TcCoe Idealize.SL.Sem Cert.KernelIdeal Cert.KernelIdeal.Gen Cert.KernelIdeal.Value

/-- What both programs leave of the first result, in the arguments and the sequences of queries, keys and values. -/
def goal (a2 : FVec Ideal S4x4x8x4096x128 .bf16) (a3 : FVec Ideal S1024 .f32) (x0 x1 : Fin 8 → EReal) (qr : Fin 4 → Fin 8 → ℕ → Fin 128 → ℝ) (kr : Fin 4 → Fin 8 → ℕ → Fin 128 → EReal) (vr : Fin 4 → Fin 8 → ℕ → Fin 128 → ℝ)
    (b : Fin 4) (h : Fin 8) (s : Fin 4096) (e : Fin 128) : EReal :=
  fin (fun d => back (ret (qr b h) (kr b h) (vr b h) (x0 h) (x1 h) s.val d))
    (fun d => a3 (ix1 (⟨h.val * 128 + d.val, by omega⟩ : Fin 1024))) (fun d => a2 (ix5 (3 : Fin 4) b h s d)) e

section kernel
variable {x0 x1 : Fin 8 → EReal} {qr : Fin 4 → Fin 8 → ℕ → Fin 128 → ℝ} {kr : Fin 4 → Fin 8 → ℕ → Fin 128 → EReal} {vr : Fin 4 → Fin 8 → ℕ → Fin 128 → ℝ} (m : (ℓ : Loc nD τ sig) → Buf (Elt Ideal) ℓ) (c : Dev nD)

/-- What a point leaves, in its head and batch. -/
theorem out_goal (H : RetRef.Args (m ((c : Thread nD τ).loc main_arg0)) (m ((c : Thread nD τ).loc main_arg1)) (m ((c : Thread nD τ).loc main_arg2)) x0 x1 qr kr vr)
    (t : Fin cfg0.N) (b : Fin 4) (h : Fin 8) (hb : bt t = b) (hh : hd t = h) (s : Fin 4096) (e : Fin 128) :
    (outsAt0 m c t.val t.isLt).1 (ix4 (0 : Fin 1) (0 : Fin 1) s e)
      = goal (m ((c : Thread nD τ).loc main_arg2)) (m ((c : Thread nD τ).loc main_arg3)) x0 x1 qr kr vr b h s e := by
  subst hb hh
  exact out_at m c H t s e

/-- The kernel's first result at an entry. -/
theorem G9_at (H : RetRef.Args (m ((c : Thread nD τ).loc main_arg0)) (m ((c : Thread nD τ).loc main_arg1)) (m ((c : Thread nD τ).loc main_arg2)) x0 x1 qr kr vr)
    (b : Fin 4) (h : Fin 8) (s : Fin 4096) (e : Fin 128) :
    G9 m c (ix4 b h s e) = goal (m ((c : Thread nD τ).loc main_arg2)) (m ((c : Thread nD τ).loc main_arg3)) x0 x1 qr kr vr b h s e := by
  have hN : cfg0.N = 32 := N_0
  have hv : pt9Of (ix4 b h s e : S4x8x4096x128.Idx) = 4 * h.val + b.val := by
    show 1 * (b.val / 1 - 0) + 4 * (h.val / 1 - 0) + 32 * (s.val / 4096 - 0) + 32 * (e.val / 128 - 0) = _
    omega
  have hp : pt9Of (ix4 b h s e : S4x8x4096x128.Idx) < cfg0.N := by rw [hv, hN]; omega
  have hl : loc9Of (ix4 b h s e : S4x8x4096x128.Idx) = ix4 (0 : Fin 1) (0 : Fin 1) s e := by
    funext a
    apply Fin.ext
    match a with
    | ⟨0, _⟩ => show b.val % 1 = 0; omega
    | ⟨1, _⟩ => show h.val % 1 = 0; omega
    | ⟨2, _⟩ => show s.val % 4096 = s.val; omega
    | ⟨3, _⟩ => show e.val % 128 = e.val; omega
  unfold G9
  refine (dif_pos hp).trans ?_
  rw [← outsAt0_sweep m c _ hp, hl]
  refine out_goal m c H ⟨_, hp⟩ b h (Fin.ext ?_) (Fin.ext ?_) s e
  · show pt9Of (ix4 b h s e : S4x8x4096x128.Idx) % 4 = b.val; rw [hv]; omega
  · show pt9Of (ix4 b h s e : S4x8x4096x128.Idx) / 4 = h.val; rw [hv]; omega

/-- The kernel's second result is the output projection's weight. -/
theorem G10_at (k n : Fin 2048) : G10 m c (ix2 k n) = m ((c : Thread nD τ).loc main_arg4) (ix2 k n) := by
  have hN : cfg0.N = 32 := N_0
  have hv : pt10Of (ix2 k n : S2048x2048.Idx) = k.val / 64 := by
    show 1 * (k.val / 64 - 0) + 1 * (n.val / 2048 - 0) = _
    omega
  have hp : pt10Of (ix2 k n : S2048x2048.Idx) < cfg0.N := by rw [hv, hN]; omega
  have hl : loc10Of (ix2 k n : S2048x2048.Idx) = ix2 (⟨k.val % 64, by omega⟩ : Fin 64) n := by
    funext a
    apply Fin.ext
    match a with
    | ⟨0, _⟩ => rfl
    | ⟨1, _⟩ => show n.val % 2048 = n.val; omega
  unfold G10
  refine (dif_pos hp).trans ?_
  rw [← outsAt0_sweep m c _ hp, hl]
  refine (outw_at m c ⟨_, hp⟩ _ _).trans ((blk_7 m c ⟨_, hp⟩ _ _).trans (congrArg (fun y : Fin 2048 => m ((c : Thread nD τ).loc main_arg4) (ix2 y n)) (Fin.ext ?_)))
  show 64 * pt10Of (ix2 k n : S2048x2048.Idx) + k.val % 64 = k.val
  rw [hv]; omega

/-- The kernel's third result is the down projection's weight. -/
theorem G11_at (k : Fin 5632) (n : Fin 2048) : G11 m c (ix2 k n) = m ((c : Thread nD τ).loc main_arg5) (ix2 k n) := by
  have hN : cfg0.N = 32 := N_0
  have hv : pt11Of (ix2 k n : S5632x2048.Idx) = k.val / 176 := by
    show 1 * (k.val / 176 - 0) + 1 * (n.val / 2048 - 0) = _
    omega
  have hp : pt11Of (ix2 k n : S5632x2048.Idx) < cfg0.N := by rw [hv, hN]; omega
  have hl : loc11Of (ix2 k n : S5632x2048.Idx) = ix2 (⟨k.val % 176, by omega⟩ : Fin 176) n := by
    funext a
    apply Fin.ext
    match a with
    | ⟨0, _⟩ => rfl
    | ⟨1, _⟩ => show n.val % 2048 = n.val; omega
  unfold G11
  refine (dif_pos hp).trans ?_
  rw [← outsAt0_sweep m c _ hp, hl]
  refine (down_at m c ⟨_, hp⟩ _ _).trans ((blk_8 m c ⟨_, hp⟩ _ _).trans (congrArg (fun y : Fin 5632 => m ((c : Thread nD τ).loc main_arg5) (ix2 y n)) (Fin.ext ?_)))
  show 176 * pt11Of (ix2 k n : S5632x2048.Idx) + k.val % 176 = k.val
  rw [hv]; omega
end kernel

/-- A value whose magnitude is less than infinity is a real. -/
theorem real_of_lt (x : EReal) (h : Ideal.cmp .olt (max x (-x)) (Ideal.ofBits .f32 0x7F800000#32) = 1#1) : x = ((x.toReal : ℝ) : EReal) := by
  have ht : Ideal.ofBits .f32 0x7F800000#32 = (⊤ : EReal) := by simp [Ideal.ofBits, Ideal.ieee]
  rw [ht] at h
  refine (EReal.coe_toReal (fun e => ?_) (fun e => ?_)).symm
  · subst e; simp [Ideal.cmp] at h
  · subst e; simp [Ideal.cmp] at h

/-- The sequence of part `p` of the projections: queries, keys or values. -/
def seqOf (a2 : FVec Ideal S4x4x8x4096x128 .bf16) (p : Fin 4) (b : Fin 4) (h : Fin 8) (s : ℕ) (d : Fin 128) : EReal :=
  if hs : s < 4096 then a2 (ix5 p b h ⟨s, hs⟩ d) else 0

/-- Queries and values of which the precondition holds are real. -/
theorem args_of (a0 a1 : FVec Ideal S8 .f32) (a2 : FVec Ideal S4x4x8x4096x128 .bf16) (a3 : FVec Ideal S1024 .f32) (a4 : FVec Ideal S2048x2048 .f32) (a5 : FVec Ideal S5632x2048 .f32)
    (h : Cert.Pre_finite_inputs.fn (F := Ideal) a0 a1 a2 a3 a4 a5 = fun _ => 1#1) :
    RetRef.Args a0 a1 a2 (fun h => a0 (ix1 h)) (fun h => a1 (ix1 h)) (fun b h s d => (seqOf a2 0 b h s d).toReal) (seqOf a2 1) (fun b h s d => (seqOf a2 2 b h s d).toReal) := by
  have hj := congrFun h (fun a => a.elim0)
  unfold Cert.Pre_finite_inputs.fn at hj
  have two : ∀ x y : BitVec 1, x &&& y = 1#1 → x = 1#1 ∧ y = 1#1 := by decide
  obtain ⟨hq, hv⟩ := two _ _ hj
  have seq : ∀ (p b : Fin 4) (h : Fin 8) (s : Fin 4096) (d : Fin 128), seqOf a2 p b h s.val d = a2 (ix5 p b h s d) := fun p b h s d => dif_pos s.isLt
  have eq : ∀ (b : Fin 4) (h : Fin 8) (s : Fin 4096) (d : Fin 128),
      shapeCast Cert.Pre_finite_inputs.S4x8x4096x128 (extractStridedSlice Cert.Pre_finite_inputs.S1x4x8x4096x128 ![0, 0, 0, 0, 0] a2 Cert.Pre_finite_inputs.Gen.slices_S4x4x8x4096x128_S1x4x8x4096x128_0_0_0_0_0)
        Cert.Pre_finite_inputs.Gen.shapeCasts_S1x4x8x4096x128_S4x8x4096x128 (ix4 b h s d) = a2 (ix5 (0 : Fin 4) b h s d) := fun b h s d => by pointwise
  have ev : ∀ (b : Fin 4) (h : Fin 8) (s : Fin 4096) (d : Fin 128),
      shapeCast Cert.Pre_finite_inputs.S4x8x4096x128 (extractStridedSlice Cert.Pre_finite_inputs.S1x4x8x4096x128 ![2, 0, 0, 0, 0] a2 Cert.Pre_finite_inputs.Gen.slices_S4x4x8x4096x128_S1x4x8x4096x128_2_0_0_0_0)
        Cert.Pre_finite_inputs.Gen.shapeCasts_S1x4x8x4096x128_S4x8x4096x128 (ix4 b h s d) = a2 (ix5 (2 : Fin 4) b h s d) := fun b h s d => by pointwise
  refine ⟨fun _ => rfl, fun _ => rfl, fun b h s d => ?_, fun b h s d => (seq 1 b h s d).symm, fun b h s d => ?_⟩
  · rw [seq]
    refine real_of_lt _ ?_
    rw [← eq]
    exact Host.reduce_andi_all _ _ _ _ _ hq (ix4 b h s d)
  · rw [seq]
    refine real_of_lt _ ?_
    rw [← ev]
    exact Host.reduce_andi_all _ _ _ _ _ hv (ix4 b h s d)

end Cert.Proof.Ret

namespace Cert.Proof.RetRef

open Idealize.ShloMosaic Idealize.ShloMosaic.TcCoe Idealize.ShloMosaic.Tactic Idealize.ShloMosaic.StableHlo Idealize.SL.Sem Cert.ReferenceIdeal Cert.ReferenceIdeal.Gen Cert.ReferenceIdeal.Value

/-- The reference's first result at an entry. -/
theorem res_goal {x0 x1 : Fin 8 → EReal} {qr : Fin 4 → Fin 8 → ℕ → Fin 128 → ℝ} {kr : Fin 4 → Fin 8 → ℕ → Fin 128 → EReal} {vr : Fin 4 → Fin 8 → ℕ → Fin 128 → ℝ} (m : (ℓ : Loc nD τ sig) → Buf (Elt Ideal) ℓ) (c : Dev nD)
    (H : Args (m ((c.tc : Thread nD τ).loc main_arg0)) (m ((c.tc : Thread nD τ).loc main_arg1)) (m ((c.tc : Thread nD τ).loc main_arg2)) x0 x1 qr kr vr)
    (b : Fin 4) (h : Fin 8) (s : Fin 4096) (e : Fin 128) :
    out_main_v136 (STEP^[32] (entryContents preI m c)) (ix4 b h s e)
      = Ret.goal (m ((c.tc : Thread nD τ).loc main_arg2)) (m ((c.tc : Thread nD τ).loc main_arg3)) x0 x1 qr kr vr b h s e := by
  obtain ⟨-, hs⟩ := RetIter.iter_STEP _ (RetIter.entry_at m c) 32
  rw [RetIter.entry_state] at hs
  refine (congrFun (RetIter.out_res _) _).trans ?_
  rw [hs, iter_main_arg2, iter_main_arg3, res_eq]
  refine (resV_fin _ _ _ b h s e).trans (Ret.fin_back _ _ _ _ (fun d => ?_) e)
  exact osum_ret x0 x1 qr kr vr _ _ (fun c => (fwd_iter H 32 le_rfl).o c c.isLt) (fun c => (bwd_iter H 32 le_rfl).o c c.isLt) b h s d

/-- The reference's second result is its argument: at the ideal a change of width leaves a value as it is. -/
theorem res_out (m : (ℓ : Loc nD τ sig) → Buf (Elt Ideal) ℓ) (c : Dev nD) :
    out_main_v137 (STEP^[32] (entryContents preI m c)) = m ((c.tc : Thread nD τ).loc main_arg4) := iter_main_arg4 m c 32

/-- So is its third. -/
theorem res_down (m : (ℓ : Loc nD τ sig) → Buf (Elt Ideal) ℓ) (c : Dev nD) :
    out_main_v138 (STEP^[32] (entryContents preI m c)) = m ((c.tc : Thread nD τ).loc main_arg5) := iter_main_arg5 m c 32

end Cert.Proof.RetRef

namespace Cert.Proof

open Idealize.ShloMosaic Idealize.ShloMosaic.TcCoe Idealize.SL.Sem

/-- The retention's algebraic claim: of finite queries and values, both programs end at the closed form of the same arguments. -/
theorem ret_algebraic : algebraic_KernelIdeal_ReferenceIdeal_pre_finite_inputs (hKernelIdeal := Cert.KernelIdeal.Gen.facts)
    (hReferenceIdeal := Cert.ReferenceIdeal.Gen.facts) (hPre_finite_inputs := Cert.Pre_finite_inputs.Gen.facts) := by
  intro m g m' g' hpre hargs
  refine ⟨Cert.KernelIdeal.Value.G9 m, Cert.KernelIdeal.Value.G10 m, Cert.KernelIdeal.Value.G11 m, Cert.KernelIdeal.Value.run m g, ?_⟩
  refine (θ_run _ _ _).mono (fun r h c => ⟨(h c).1.trans ?_, (h c).2.1.trans ?_, (h c).2.2.1.trans ?_, (h c).2.2.2⟩) (Cert.ReferenceIdeal.Value.run (F := Ideal) m' g')
  all_goals obtain ⟨e0, e1, e2, e3, e4, e5⟩ := hargs c
  all_goals funext j
  · have H := Ret.args_of _ _ _ _ _ _ (hpre c)
    have H' := H
    rw [← e0, ← e1, ← e2] at H'
    rw [eq_ix4 (n0 := 4) (n1 := 8) (n2 := 4096) (n3 := 128) j]
    refine (RetRef.res_goal m' c H' _ _ _ _).trans (Eq.trans ?_ (Ret.G9_at m c H _ _ _ _).symm)
    rw [e0, e1, e2, e3]
  · rw [RetRef.res_out, e4, eq_ix2 (n0 := 2048) (n1 := 2048) j]
    exact (Ret.G10_at m c _ _).symm
  · rw [RetRef.res_down, e5, eq_ix2 (n0 := 5632) (n1 := 2048) j]
    exact (Ret.G11_at m c _ _).symm

end Cert.Proof

end
-- ==== Proof.lean ====
/-
  The proof of `Cert.Claim`. The frames of the two kernels are the generated certificates'; those of the two references are
  their runs, with the counters at zero because a host program declares no semaphore; `ffn_algebraic` is Proof/FfnRun.lean's
  and `ret_algebraic` Proof/RetRun.lean's.
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Step
public import proofs.«01_k».proof.Proof.Gen.Reference2Ideal.Run
public import proofs.«01_k».proof.Proof.Gen.Kernel2.Frame
public import proofs.«01_k».proof.Proof.Gen.Kernel2Ideal.Frame
public import proofs.«01_k».proof.Proof.Gen.Pre_finite_inputs
public import proofs.«01_k».proof.Proof.FfnRun
public import proofs.«01_k».proof.Proof.RetRun
public import Idealize.ShloMosaic.Lib.Quiescent
public import Idealize.ShloMosaic.Adequacy
public import Idealize.ShloMosaic.Init

@[expose] public section

noncomputable section

namespace Cert.Proof

open Idealize.ShloMosaic Idealize.SL.Sem

/-- The retention reference terminates with its arguments unchanged and every counter at zero. -/
theorem frame_reference : Cert.quiescent_ReferenceIdeal (hReferenceIdeal := Cert.ReferenceIdeal.Gen.facts) := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)

/-- So does the reference of the output projection and the feed-forward. -/
theorem frame_reference2 : Cert.quiescent_Reference2Ideal (hReference2Ideal := Cert.Reference2Ideal.Gen.facts) := fun m ρ _ =>
  (θ_run Cert.Reference2Ideal.defs _ _).mono
    (fun r h => ⟨fun c => (h c).2, sem_eq_zero_of_no_sems (by decide) r.2⟩)
    (Cert.Reference2Ideal.Value.run (F := Ideal) m ρ)

/-- Everything that is claimed. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Pre_finite_inputs.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Kernel2.Gen.frame m ρ, fun m ρ _ => Cert.Kernel2Ideal.Gen.frame m ρ, frame_reference2,
    trivial, ret_algebraic, trivial, ffn_algebraic⟩

end Cert.Proof
